-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x7168 : Shape := ⟨3, ![1, 2048, 7168]⟩
abbrev S1536x7168 : Shape := ⟨2, ![1536, 7168]⟩
abbrev S24576x1536 : Shape := ⟨2, ![24576, 1536]⟩
abbrev S576x7168 : Shape := ⟨2, ![576, 7168]⟩
abbrev S32768x512 : Shape := ⟨2, ![32768, 512]⟩
abbrev S128 : Shape := ⟨1, ![128]⟩
abbrev S_ : Shape := ⟨0, ![]⟩

class Facts : Prop where
  bcast_S_S1x2048x7168 : S_.BroadcastsInDim S1x2048x7168 (![] : Fin 0 → Fin S1x2048x7168.rank)
  reducesTo_S1x2048x7168_S_d0_1_2 : S1x2048x7168.ReducesTo [0, 1, 2] S_
  h_S_ : 0 < S_.numel
  bcast_S_S1536x7168 : S_.BroadcastsInDim S1536x7168 (![] : Fin 0 → Fin S1536x7168.rank)
  reducesTo_S1536x7168_S_d0_1 : S1536x7168.ReducesTo [0, 1] S_
  bcast_S_S24576x1536 : S_.BroadcastsInDim S24576x1536 (![] : Fin 0 → Fin S24576x1536.rank)
  reducesTo_S24576x1536_S_d0_1 : S24576x1536.ReducesTo [0, 1] S_
  bcast_S_S576x7168 : S_.BroadcastsInDim S576x7168 (![] : Fin 0 → Fin S576x7168.rank)
  reducesTo_S576x7168_S_d0_1 : S576x7168.ReducesTo [0, 1] S_
  bcast_S_S32768x512 : S_.BroadcastsInDim S32768x512 (![] : Fin 0 → Fin S32768x512.rank)
  reducesTo_S32768x512_S_d0_1 : S32768x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S32768x512 .f32) (main_arg5 : FVec F S128 .f32) (main_v13 : IVec S_ 1) (main_v16 : IVec S576x7168 1) : IVec S_ 1 :=
  let main_c_5 : IVec S_ 1 := constantI S_ 1 1#1
  let main_v17 : IVec S_ 1 := (fun x v => Host.reduce IntOp.andi x v reducesTo_S576x7168_S_d0_1 h_S_) main_v16 main_c_5
  let main_v18 : IVec S_ 1 := andi main_v13 main_v17
  let main_v19 : FVec F S32768x512 .f32 := Host.absf main_arg4
  let main_cst_6 : FVec F S_ .f32 := constant S_ .f32 0x7F800000#32
  let main_v20 : FVec F S32768x512 .f32 := broadcastInDim S32768x512 ![] bcast_S_S32768x512 main_cst_6
  let main_v21 : IVec S32768x512 1 := cmpf .olt main_v19 main_v20
  let main_c_7 : IVec S_ 1 := constantI S_ 1 1#1
  let main_v22 : IVec S_ 1 := (fun x v => Host.reduce IntOp.andi x v reducesTo_S32768x512_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1x2048x7168 .f32) (main_arg1 : FVec F S1536x7168 .f32) (main_arg2 : FVec F S24576x1536 .f32) (main_arg3 : FVec F S576x7168 .f32) (main_arg4 : FVec F S32768x512 .f32) (main_arg5 : FVec F S128 .f32) : IVec S_ 1 :=
  let main_v0 : FVec F S1x2048x7168 .f32 := Host.absf main_arg0
  let main_cst : FVec F S_ .f32 := constant S_ .f32 0x7F800000#32
  let main_v1 : FVec F S1x2048x7168 .f32 := broadcastInDim S1x2048x7168 ![] bcast_S_S1x2048x7168 main_cst
  let main_v2 : IVec S1x2048x7168 1 := cmpf .olt main_v0 main_v1
  let main_c : IVec S_ 1 := constantI S_ 1 1#1
  let main_v3 : IVec S_ 1 := (fun x v => Host.reduce IntOp.andi x v reducesTo_S1x2048x7168_S_d0_1_2 h_S_) main_v2 main_c
  let main_v4 : FVec F S1536x7168 .f32 := Host.absf main_arg1
  let main_cst_0 : FVec F S_ .f32 := constant S_ .f32 0x7F800000#32
  let main_v5 : FVec F S1536x7168 .f32 := broadcastInDim S1536x7168 ![] bcast_S_S1536x7168 main_cst_0
  let main_v6 : IVec S1536x7168 1 := cmpf .olt main_v4 main_v5
  let main_c_1 : IVec S_ 1 := constantI S_ 1 1#1
  let main_v7 : IVec S_ 1 := (fun x v => Host.reduce IntOp.andi x v reducesTo_S1536x7168_S_d0_1 h_S_) main_v6 main_c_1
  let main_v8 : IVec S_ 1 := andi main_v3 main_v7
  let main_v9 : FVec F S24576x1536 .f32 := Host.absf main_arg2
  let main_cst_2 : FVec F S_ .f32 := constant S_ .f32 0x7F800000#32
  let main_v10 : FVec F S24576x1536 .f32 := broadcastInDim S24576x1536 ![] bcast_S_S24576x1536 main_cst_2
  let main_v11 : IVec S24576x1536 1 := cmpf .olt main_v9 main_v10
  let main_c_3 : IVec S_ 1 := constantI S_ 1 1#1
  let main_v12 : IVec S_ 1 := (fun x v => Host.reduce IntOp.andi x v reducesTo_S24576x1536_S_d0_1 h_S_) main_v11 main_c_3
  let main_v13 : IVec S_ 1 := andi main_v8 main_v12
  let main_v14 : FVec F S576x7168 .f32 := Host.absf main_arg3
  let main_cst_4 : FVec F S_ .f32 := constant S_ .f32 0x7F800000#32
  let main_v15 : FVec F S576x7168 .f32 := broadcastInDim S576x7168 ![] bcast_S_S576x7168 main_cst_4
  let main_v16 : IVec S576x7168 1 := cmpf .olt main_v14 main_v15
  fn_part1 (F := F) main_arg4 main_arg5 main_v13 main_v16
-- ==== Kernel.lean ====
abbrev S1x2048x7168 : Shape := ⟨3, ![1, 2048, 7168]⟩
abbrev S1536x7168 : Shape := ⟨2, ![1536, 7168]⟩
abbrev S24576x1536 : Shape := ⟨2, ![24576, 1536]⟩
abbrev S576x7168 : Shape := ⟨2, ![576, 7168]⟩
abbrev S32768x512 : Shape := ⟨2, ![32768, 512]⟩
abbrev S128 : Shape := ⟨1, ![128]⟩
abbrev S2048x7168 : Shape := ⟨2, ![2048, 7168]⟩
abbrev S8x1x16 : Shape := ⟨3, ![8, 1, 16]⟩
abbrev S128x192x1536 : Shape := ⟨3, ![128, 192, 1536]⟩
abbrev S128x128x1536 : Shape := ⟨3, ![128, 128, 1536]⟩
abbrev S16384x1536 : Shape := ⟨2, ![16384, 1536]⟩
abbrev S128x64x1536 : Shape := ⟨3, ![128, 64, 1536]⟩
abbrev S8192x1536 : Shape := ⟨2, ![8192, 1536]⟩
abbrev S128x256x512 : Shape := ⟨3, ![128, 256, 512]⟩
abbrev S128x128x512 : Shape := ⟨3, ![128, 128, 512]⟩
abbrev S16384x512 : Shape := ⟨2, ![16384, 512]⟩
abbrev S2048 : Shape := ⟨1, ![2048]⟩
abbrev S1x2048 : Shape := ⟨2, ![1, 2048]⟩
abbrev S_ : Shape := ⟨0, ![]⟩
abbrev S16 : Shape := ⟨1, ![16]⟩
abbrev S16x1 : Shape := ⟨2, ![16, 1]⟩
abbrev S16x2048 : Shape := ⟨2, ![16, 2048]⟩
abbrev S2048x1536 : Shape := ⟨2, ![2048, 1536]⟩
abbrev S2048x576 : Shape := ⟨2, ![2048, 576]⟩
abbrev S2048x128x128 : Shape := ⟨3, ![2048, 128, 128]⟩
abbrev S512x1792 : Shape := ⟨2, ![512, 1792]⟩
abbrev S1536x1792 : Shape := ⟨2, ![1536, 1792]⟩
abbrev S576x1792 : Shape := ⟨2, ![576, 1792]⟩
abbrev S512x1536 : Shape := ⟨2, ![512, 1536]⟩
abbrev S512x576 : Shape := ⟨2, ![512, 576]⟩
abbrev S256x1536 : Shape := ⟨2, ![256, 1536]⟩
abbrev S256x576 : Shape := ⟨2, ![256, 576]⟩
abbrev S1024x1536 : Shape := ⟨2, ![1024, 1536]⟩
abbrev S2048x512 : Shape := ⟨2, ![2048, 512]⟩
abbrev S1x1x16 : Shape := ⟨3, ![1, 1, 16]⟩
abbrev S256x16x128 : Shape := ⟨3, ![256, 16, 128]⟩
abbrev S16x128x128 : Shape := ⟨3, ![16, 128, 128]⟩
abbrev S256x512 : Shape := ⟨2, ![256, 512]⟩
abbrev S256x64 : Shape := ⟨2, ![256, 64]⟩
abbrev S256x2048 : Shape := ⟨2, ![256, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x16 : Shape := ⟨2, ![256, 16]⟩
abbrev S1x16 : Shape := ⟨2, ![1, 16]⟩
abbrev S16x256 : Shape := ⟨2, ![16, 256]⟩
abbrev S1x128x128 : Shape := ⟨3, ![1, 128, 128]⟩
abbrev S128x128 : Shape := ⟨2, ![128, 128]⟩
abbrev S256x128 : Shape := ⟨2, ![256, 128]⟩
abbrev S1x256 : Shape := ⟨2, ![1, 256]⟩
abbrev S1x1 : Shape := ⟨2, ![1, 1]⟩
abbrev S256x1x128 : Shape := ⟨3, ![256, 1, 128]⟩
abbrev S1x2048x128x128 : Shape := ⟨4, ![1, 2048, 128, 128]⟩

abbrev nBuf : Space → Nat
  | .hbm => 56
  | .vmem => 30
  | .smem => 0
  | _ => 0

abbrev bufTy : (tb : Table) → Fin (tcTables nBuf tb) → BufTy
  | .hbm, ⟨0, _⟩ => ⟨S1x2048x7168, .f32⟩
  | .hbm, ⟨1, _⟩ => ⟨S1536x7168, .f32⟩
  | .hbm, ⟨2, _⟩ => ⟨S24576x1536, .f32⟩
  | .hbm, ⟨3, _⟩ => ⟨S576x7168, .f32⟩
  | .hbm, ⟨4, _⟩ => ⟨S32768x512, .f32⟩
  | .hbm, ⟨5, _⟩ => ⟨S128, .f32⟩
  | .hbm, ⟨6, _⟩ => ⟨S2048x7168, .f32⟩
  | .hbm, ⟨7, _⟩ => ⟨S128, .f32⟩
  | .hbm, ⟨8, _⟩ => ⟨S128, .f32⟩
  | .hbm, ⟨9, _⟩ => ⟨S8x1x16, .f32⟩
  | .hbm, ⟨10, _⟩ => ⟨S128x192x1536, .f32⟩
  | .hbm, ⟨11, _⟩ => ⟨S128x128x1536, .f32⟩
  | .hbm, ⟨12, _⟩ => ⟨S16384x1536, .f32⟩
  | .hbm, ⟨13, _⟩ => ⟨S16384x1536, .bf16⟩
  | .hbm, ⟨14, _⟩ => ⟨S128x64x1536, .f32⟩
  | .hbm, ⟨15, _⟩ => ⟨S8192x1536, .f32⟩
  | .hbm, ⟨16, _⟩ => ⟨S8192x1536, .bf16⟩
  | .hbm, ⟨17, _⟩ => ⟨S128x256x512, .f32⟩
  | .hbm, ⟨18, _⟩ => ⟨S128x128x512, .f32⟩
  | .hbm, ⟨19, _⟩ => ⟨S16384x512, .f32⟩
  | .hbm, ⟨20, _⟩ => ⟨S16384x512, .bf16⟩
  | .hbm, ⟨21, _⟩ => ⟨S128x128x512, .f32⟩
  | .hbm, ⟨22, _⟩ => ⟨S16384x512, .f32⟩
  | .hbm, ⟨23, _⟩ => ⟨S16384x512, .bf16⟩
  | .hbm, ⟨24, _⟩ => ⟨S2048, .i32⟩
  | .hbm, ⟨25, _⟩ => ⟨S1x2048, .i32⟩
  | .hbm, ⟨26, _⟩ => ⟨S_, .i32⟩
  | .hbm, ⟨27, _⟩ => ⟨S_, .i32⟩
  | .hbm, ⟨28, _⟩ => ⟨S1x2048, .i32⟩
  | .hbm, ⟨29, _⟩ => ⟨S1x2048, .i32⟩
  | .hbm, ⟨30, _⟩ => ⟨S1x2048, .i32⟩
  | .hbm, ⟨31, _⟩ => ⟨S_, .i32⟩
  | .hbm, ⟨32, _⟩ => ⟨S1x2048, .i32⟩
  | .hbm, ⟨33, _⟩ => ⟨S1x2048, .i1⟩
  | .hbm, ⟨34, _⟩ => ⟨S1x2048, .i32⟩
  | .hbm, ⟨35, _⟩ => ⟨S1x2048, .i32⟩
  | .hbm, ⟨36, _⟩ => ⟨S_, .i32⟩
  | .hbm, ⟨37, _⟩ => ⟨S1x2048, .i32⟩
  | .hbm, ⟨38, _⟩ => ⟨S1x2048, .i1⟩
  | .hbm, ⟨39, _⟩ => ⟨S1x2048, .i1⟩
  | .hbm, ⟨40, _⟩ => ⟨S_, .i32⟩
  | .hbm, ⟨41, _⟩ => ⟨S1x2048, .i32⟩
  | .hbm, ⟨42, _⟩ => ⟨S1x2048, .i32⟩
  | .hbm, ⟨43, _⟩ => ⟨S1x2048, .i32⟩
  | .hbm, ⟨44, _⟩ => ⟨S16, .i32⟩
  | .hbm, ⟨45, _⟩ => ⟨S16x1, .i32⟩
  | .hbm, ⟨46, _⟩ => ⟨S16x2048, .i32⟩
  | .hbm, ⟨47, _⟩ => ⟨S16x2048, .i32⟩
  | .hbm, ⟨48, _⟩ => ⟨S16x2048, .i1⟩
  | .hbm, ⟨49, _⟩ => ⟨S16x2048, .bf16⟩
  | .hbm, ⟨50, _⟩ => ⟨S1536x7168, .bf16⟩
  | .hbm, ⟨51, _⟩ => ⟨S576x7168, .bf16⟩
  | .hbm, ⟨52, _⟩ => ⟨S2048x1536, .bf16⟩
  | .hbm, ⟨53, _⟩ => ⟨S2048x576, .f32⟩
  | .hbm, ⟨54, _⟩ => ⟨S2048x128x128, .f32⟩
  | .hbm, ⟨55, _⟩ => ⟨S1x2048x128x128, .f32⟩
  | .local _ .vmem, ⟨0, _⟩ => ⟨S512x1792, .f32⟩
  | .local _ .vmem, ⟨1, _⟩ => ⟨S512x1792, .f32⟩
  | .local _ .vmem, ⟨2, _⟩ => ⟨S1536x1792, .bf16⟩
  | .local _ .vmem, ⟨3, _⟩ => ⟨S1536x1792, .bf16⟩
  | .local _ .vmem, ⟨4, _⟩ => ⟨S576x1792, .bf16⟩
  | .local _ .vmem, ⟨5, _⟩ => ⟨S576x1792, .bf16⟩
  | .local _ .vmem, ⟨6, _⟩ => ⟨S512x1536, .bf16⟩
  | .local _ .vmem, ⟨7, _⟩ => ⟨S512x1536, .bf16⟩
  | .local _ .vmem, ⟨8, _⟩ => ⟨S512x576, .f32⟩
  | .local _ .vmem, ⟨9, _⟩ => ⟨S512x576, .f32⟩
  | .local _ .vmem, ⟨10, _⟩ => ⟨S512x1536, .f32⟩
  | .local _ .vmem, ⟨11, _⟩ => ⟨S512x576, .f32⟩
  | .local _ .vmem, ⟨12, _⟩ => ⟨S256x1536, .bf16⟩
  | .local _ .vmem, ⟨13, _⟩ => ⟨S256x1536, .bf16⟩
  | .local _ .vmem, ⟨14, _⟩ => ⟨S256x576, .f32⟩
  | .local _ .vmem, ⟨15, _⟩ => ⟨S256x576, .f32⟩
  | .local _ .vmem, ⟨16, _⟩ => ⟨S2048x1536, .bf16⟩
  | .local _ .vmem, ⟨17, _⟩ => ⟨S2048x1536, .bf16⟩
  | .local _ .vmem, ⟨18, _⟩ => ⟨S1024x1536, .bf16⟩
  | .local _ .vmem, ⟨19, _⟩ => ⟨S1024x1536, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S1x1x16, .f32⟩
  | .local _ .vmem, ⟨25, _⟩ => ⟨S1x1x16, .f32⟩
  | .local _ .vmem, ⟨26, _⟩ => ⟨S16x2048, .bf16⟩
  | .local _ .vmem, ⟨27, _⟩ => ⟨S256x16x128, .f32⟩
  | .local _ .vmem, ⟨28, _⟩ => ⟨S256x16x128, .f32⟩
  | .local _ .vmem, ⟨29, _⟩ => ⟨S16x128x128, .f32⟩
  | _, _ => ⟨S1x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0_0 : Ref sig .tc := ⟨.hbm, 52, rfl⟩
abbrev main_call1_v0_1 : Ref sig .tc := ⟨.hbm, 53, rfl⟩
abbrev main_v29 : Ref sig .tc := ⟨.hbm, 54, rfl⟩
abbrev main_v30 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem8_1 : DmaSem sig := 26

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S576x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1536 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 1 → Memref sig .tc .vmem S16x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S256x16x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S1x2048x7168 : Shape := ⟨3, ![1, 2048, 7168]⟩
abbrev S1536x7168 : Shape := ⟨2, ![1536, 7168]⟩
abbrev S24576x1536 : Shape := ⟨2, ![24576, 1536]⟩
abbrev S576x7168 : Shape := ⟨2, ![576, 7168]⟩
abbrev S32768x512 : Shape := ⟨2, ![32768, 512]⟩
abbrev S128 : Shape := ⟨1, ![128]⟩
abbrev S7168x1536 : Shape := ⟨2, ![7168, 1536]⟩
abbrev S1x2048x1536 : Shape := ⟨3, ![1, 2048, 1536]⟩
abbrev S1536x24576 : Shape := ⟨2, ![1536, 24576]⟩
abbrev S1x2048x24576 : Shape := ⟨3, ![1, 2048, 24576]⟩
abbrev S1x2048x128x192 : Shape := ⟨4, ![1, 2048, 128, 192]⟩
abbrev S1x2048x128x128 : Shape := ⟨4, ![1, 2048, 128, 128]⟩
abbrev S1x2048x128x64 : Shape := ⟨4, ![1, 2048, 128, 64]⟩
abbrev S7168x576 : Shape := ⟨2, ![7168, 576]⟩
abbrev S1x2048x576 : Shape := ⟨3, ![1, 2048, 576]⟩
abbrev S1x2048x512 : Shape := ⟨3, ![1, 2048, 512]⟩
abbrev S1x2048x64 : Shape := ⟨3, ![1, 2048, 64]⟩
abbrev S512x32768 : Shape := ⟨2, ![512, 32768]⟩
abbrev S1x2048x32768 : Shape := ⟨3, ![1, 2048, 32768]⟩
abbrev S1x2048x128x256 : Shape := ⟨4, ![1, 2048, 128, 256]⟩
abbrev S1x2048x128 : Shape := ⟨3, ![1, 2048, 128]⟩
abbrev S_ : Shape := ⟨0, ![]⟩
abbrev S1x1x128 : Shape := ⟨3, ![1, 1, 128]⟩
abbrev S1x2048x128x1 : Shape := ⟨4, ![1, 2048, 128, 1]⟩
abbrev S1x32x64x128 : Shape := ⟨4, ![1, 32, 64, 128]⟩
abbrev S1x32x128x64 : Shape := ⟨4, ![1, 32, 128, 64]⟩
abbrev S1x32x64x128x128 : Shape := ⟨5, ![1, 32, 64, 128, 128]⟩
abbrev S1x32x128x64x1 : Shape := ⟨5, ![1, 32, 128, 64, 1]⟩
abbrev S1x32x128x1x64 : Shape := ⟨5, ![1, 32, 128, 1, 64]⟩
abbrev S1x32x128x64x64 : Shape := ⟨5, ![1, 32, 128, 64, 64]⟩
abbrev S64x64 : Shape := ⟨2, ![64, 64]⟩
abbrev S1x32x128x128x64 : Shape := ⟨5, ![1, 32, 128, 128, 64]⟩
abbrev S1x32x128x1 : Shape := ⟨4, ![1, 32, 128, 1]⟩
abbrev S1x32x64x128x1 : Shape := ⟨5, ![1, 32, 64, 128, 1]⟩
abbrev S1x32x128x128x128 : Shape := ⟨5, ![1, 32, 128, 128, 128]⟩
abbrev S1x1x128x128x128 : Shape := ⟨5, ![1, 1, 128, 128, 128]⟩
abbrev S1x33x128x128x128 : Shape := ⟨5, ![1, 33, 128, 128, 128]⟩
abbrev S1x32x128 : Shape := ⟨3, ![1, 32, 128]⟩
abbrev S1x128x32 : Shape := ⟨3, ![1, 128, 32]⟩
abbrev S1x128x33 : Shape := ⟨3, ![1, 128, 33]⟩
abbrev S1x128x33x1 : Shape := ⟨4, ![1, 128, 33, 1]⟩
abbrev S1x128x1x33 : Shape := ⟨4, ![1, 128, 1, 33]⟩
abbrev S1x128x33x33 : Shape := ⟨4, ![1, 128, 33, 33]⟩
abbrev S33x33 : Shape := ⟨2, ![33, 33]⟩
abbrev S1x128x128x128x33 : Shape := ⟨5, ![1, 128, 128, 128, 33]⟩

abbrev nBuf : Space → Nat
  | .hbm => 147
  | .vmem => 0
  | .smem => 0
  | _ => 0

abbrev hbmTy0_0 (i : Nat) : BufTy := match i % 128 with
  | 0 => ⟨S1x2048x7168, .f32⟩
  | 1 => ⟨S1536x7168, .f32⟩
  | 2 => ⟨S24576x1536, .f32⟩
  | 3 => ⟨S576x7168, .f32⟩
  | 4 => ⟨S32768x512, .f32⟩
  | 5 => ⟨S128, .f32⟩
  | 6 => ⟨S128, .f32⟩
  | 7 => ⟨S128, .f32⟩
  | 8 => ⟨S7168x1536, .f32⟩
  | 9 => ⟨S1x2048x1536, .f32⟩
  | 10 => ⟨S1536x24576, .f32⟩
  | 11 => ⟨S1x2048x24576, .f32⟩
  | 12 => ⟨S1x2048x128x192, .f32⟩
  | 13 => ⟨S1x2048x128x128, .f32⟩
  | 14 => ⟨S1x2048x128x64, .f32⟩
  | 15 => ⟨S7168x576, .f32⟩
  | 16 => ⟨S1x2048x576, .f32⟩
  | 17 => ⟨S1x2048x512, .f32⟩
  | 18 => ⟨S1x2048x64, .f32⟩
  | 19 => ⟨S512x32768, .f32⟩
  | 20 => ⟨S1x2048x32768, .f32⟩
  | 21 => ⟨S1x2048x128x256, .f32⟩
  | 22 => ⟨S1x2048x128x128, .f32⟩
  | 23 => ⟨S1x2048x128x128, .f32⟩
  | 24 => ⟨S1x2048x128, .f32⟩
  | 25 => ⟨S_, .f32⟩
  | 26 => ⟨S1x2048x128, .f32⟩
  | 27 => ⟨S1x2048x128, .f32⟩
  | 28 => ⟨S1x2048x128, .f32⟩
  | 29 => ⟨S1x2048x128, .f32⟩
  | 30 => ⟨S1x2048x128, .i1⟩
  | 31 => ⟨S1x2048x128, .f32⟩
  | 32 => ⟨S1x2048x128, .f32⟩
  | 33 => ⟨S1x2048x128, .f32⟩
  | 34 => ⟨S1x2048x128, .f32⟩
  | 35 => ⟨S1x2048x128, .f32⟩
  | 36 => ⟨S1x2048x128, .f32⟩
  | 37 => ⟨S1x2048x128, .f32⟩
  | 38 => ⟨S1x2048x128, .f32⟩
  | 39 => ⟨S1x1x128, .f32⟩
  | 40 => ⟨S1x2048x128, .f32⟩
  | 41 => ⟨S1x2048x128, .f32⟩
  | 42 => ⟨S1x2048x128x1, .f32⟩
  | 43 => ⟨S1x2048x128x128, .f32⟩
  | 44 => ⟨S1x2048x128x128, .f32⟩
  | 45 => ⟨S1x32x64x128, .f32⟩
  | 46 => ⟨S1x32x128x64, .f32⟩
  | 47 => ⟨S1x32x64x128x128, .f32⟩
  | 48 => ⟨S1x32x64x128x128, .f32⟩
  | 49 => ⟨S1x32x64x128x128, .f32⟩
  | 50 => ⟨S_, .f32⟩
  | 51 => ⟨S_, .f32⟩
  | 52 => ⟨S1x32x128x64, .f32⟩
  | 53 => ⟨S_, .f32⟩
  | 54 => ⟨S_, .f32⟩
  | 55 => ⟨S1x32x128x64, .f32⟩
  | 56 => ⟨S1x32x128x64x1, .f32⟩
  | 57 => ⟨S1x32x128x1x64, .f32⟩
  | 58 => ⟨S1x32x128x64x64, .f32⟩
  | 59 => ⟨S1x32x128x64x64, .f32⟩
  | 60 => ⟨S1x32x128x64x64, .f32⟩
  | 61 => ⟨S_, .i1⟩
  | 62 => ⟨S64x64, .i1⟩
  | 63 => ⟨S64x64, .i32⟩
  | 64 => ⟨S_, .i32⟩
  | 65 => ⟨S64x64, .i32⟩
  | 66 => ⟨S64x64, .i32⟩
  | 67 => ⟨S64x64, .i32⟩
  | 68 => ⟨S64x64, .i1⟩
  | 69 => ⟨S_, .i1⟩
  | 70 => ⟨S64x64, .i1⟩
  | 71 => ⟨S64x64, .i1⟩
  | 72 => ⟨S_, .f32⟩
  | 73 => ⟨S_, .f32⟩
  | 74 => ⟨S1x32x128x64x64, .i1⟩
  | 75 => ⟨S1x32x128x64x64, .f32⟩
  | 76 => ⟨S1x32x128x64x64, .f32⟩
  | 77 => ⟨S1x32x128x64x64, .f32⟩
  | 78 => ⟨S_, .f32⟩
  | 79 => ⟨S_, .f32⟩
  | 80 => ⟨S1x32x128x64x64, .i1⟩
  | 81 => ⟨S1x32x128x64x64, .f32⟩
  | 82 => ⟨S1x32x128x64x64, .f32⟩
  | 83 => ⟨S1x32x128x64x64, .f32⟩
  | 84 => ⟨S1x32x128x64x64, .f32⟩
  | 85 => ⟨S1x32x128x128x64, .f32⟩
  | 86 => ⟨S1x32x64x128x128, .f32⟩
  | 87 => ⟨S1x32x128x1, .f32⟩
  | 88 => ⟨S1x32x128x64, .f32⟩
  | 89 => ⟨S1x32x128x64, .f32⟩
  | 90 => ⟨S1x32x128x64, .f32⟩
  | 91 => ⟨S1x32x64x128, .f32⟩
  | 92 => ⟨S1x32x64x128x1, .f32⟩
  | 93 => ⟨S1x32x64x128x128, .f32⟩
  | 94 => ⟨S1x32x64x128x128, .f32⟩
  | 95 => ⟨S1x32x128x128x128, .f32⟩
  | 96 => ⟨S_, .f32⟩
  | 97 => ⟨S1x1x128x128x128, .f32⟩
  | 98 => ⟨S1x33x128x128x128, .f32⟩
  | 99 => ⟨S1x32x128x1, .f32⟩
  | 100 => ⟨S1x32x128, .f32⟩
  | 101 => ⟨S1x128x32, .f32⟩
  | 102 => ⟨S_, .i32⟩
  | 103 => ⟨S_, .f32⟩
  | 104 => ⟨S1x128x33, .f32⟩
  | 105 => ⟨S_, .f32⟩
  | 106 => ⟨S_, .f32⟩
  | 107 => ⟨S1x128x33, .f32⟩
  | 108 => ⟨S1x128x33x1, .f32⟩
  | 109 => ⟨S1x128x1x33, .f32⟩
  | 110 => ⟨S1x128x33x33, .f32⟩
  | 111 => ⟨S1x128x33x33, .f32⟩
  | 112 => ⟨S1x128x33x33, .f32⟩
  | 113 => ⟨S_, .i1⟩
  | 114 => ⟨S33x33, .i1⟩
  | 115 => ⟨S33x33, .i32⟩
  | 116 => ⟨S_, .i32⟩
  | 117 => ⟨S33x33, .i32⟩
  | 118 => ⟨S33x33, .i32⟩
  | 119 => ⟨S33x33, .i32⟩
  | 120 => ⟨S33x33, .i1⟩
  | 121 => ⟨S_, .i1⟩
  | 122 => ⟨S33x33, .i1⟩
  | 123 => ⟨S33x33, .i1⟩
  | 124 => ⟨S_, .f32⟩
  | 125 => ⟨S_, .f32⟩
  | 126 => ⟨S1x128x33x33, .i1⟩
  | 127 => ⟨S1x128x33x33, .f32⟩
  | _ => ⟨S1x2048x7168, .f32⟩

abbrev hbmTy0_1 (i : Nat) : BufTy := match i % 128 with
  | 0 => ⟨S1x128x33x33, .f32⟩
  | 1 => ⟨S1x128x33x33, .f32⟩
  | 2 => ⟨S_, .f32⟩
  | 3 => ⟨S_, .f32⟩
  | 4 => ⟨S1x128x33x33, .i1⟩
  | 5 => ⟨S1x128x33x33, .f32⟩
  | 6 => ⟨S1x128x33x33, .f32⟩
  | 7 => ⟨S1x128x128x128x33, .f32⟩
  | 8 => ⟨S1x33x128x128x128, .f32⟩
  | 9 => ⟨S1x32x128x128x128, .f32⟩
  | 10 => ⟨S1x32x128x64, .f32⟩
  | 11 => ⟨S1x32x128x128x64, .f32⟩
  | 12 => ⟨S1x32x64x128x128, .f32⟩
  | 13 => ⟨S1x32x64x128, .f32⟩
  | 14 => ⟨S1x32x64x128x1, .f32⟩
  | 15 => ⟨S1x32x64x128x128, .f32⟩
  | 16 => ⟨S1x32x64x128x128, .f32⟩
  | 17 => ⟨S1x32x64x128x128, .f32⟩
  | 18 => ⟨S1x2048x128x128, .f32⟩
  | _ => ⟨S1x2048x7168, .f32⟩

abbrev hbmTy (i : Nat) : BufTy := match i / 128 with
  | 0 => hbmTy0_0 i
  | 1 => hbmTy0_1 i
  | _ => ⟨S1x2048x7168, .f32⟩

abbrev bufTy : (tb : Table) → Fin (tcTables nBuf tb) → BufTy
  | .hbm, ⟨i, _⟩ => hbmTy i
  | _, _ => ⟨S1x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_call0_cst : Ref sig .tc := ⟨.hbm, 50, rfl⟩
abbrev main_call1_call0_v0 : Ref sig .tc := ⟨.hbm, 51, rfl⟩
abbrev main_v31 : Ref sig .tc := ⟨.hbm, 52, rfl⟩
abbrev main_call2_call0_cst : Ref sig .tc := ⟨.hbm, 53, rfl⟩
abbrev main_call2_call0_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c : Ref sig .tc := ⟨.hbm, 61, rfl⟩
abbrev main_v38 : Ref sig .tc := ⟨.hbm, 62, rfl⟩
abbrev main_call3_v0 : Ref sig .tc := ⟨.hbm, 63, rfl⟩
abbrev main_call3_c : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_0 : Ref sig .tc := ⟨.hbm, 69, rfl⟩
abbrev main_call3_v5 : Ref sig .tc := ⟨.hbm, 70, rfl⟩
abbrev main_v39 : Ref sig .tc := ⟨.hbm, 71, rfl⟩
abbrev main_cst : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v40 : Ref sig .tc := ⟨.hbm, 76, rfl⟩
abbrev main_v41 : Ref sig .tc := ⟨.hbm, 77, rfl⟩
abbrev main_cst_0 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_1 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_2 : Ref sig .tc := ⟨.hbm, 102, rfl⟩
abbrev main_call6_v0 : Ref sig .tc := ⟨.hbm, 103, rfl⟩
abbrev main_v61 : Ref sig .tc := ⟨.hbm, 104, rfl⟩
abbrev main_call7_call0_cst : Ref sig .tc := ⟨.hbm, 105, rfl⟩
abbrev main_call7_call0_v0 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_3 : Ref sig .tc := ⟨.hbm, 113, rfl⟩
abbrev main_v68 : Ref sig .tc := ⟨.hbm, 114, rfl⟩
abbrev main_call8_v0 : Ref sig .tc := ⟨.hbm, 115, rfl⟩
abbrev main_call8_c : Ref sig .tc := ⟨.hbm, 116, rfl⟩
abbrev main_call8_v1 : Ref sig .tc := ⟨.hbm, 117, rfl⟩
abbrev main_call8_v2 : Ref sig .tc := ⟨.hbm, 118, rfl⟩
abbrev main_call8_v3 : Ref sig .tc := ⟨.hbm, 119, rfl⟩
abbrev main_call8_v4 : Ref sig .tc := ⟨.hbm, 120, rfl⟩
abbrev main_call8_c_0 : Ref sig .tc := ⟨.hbm, 121, rfl⟩
abbrev main_call8_v5 : Ref sig .tc := ⟨.hbm, 122, rfl⟩
abbrev main_v69 : Ref sig .tc := ⟨.hbm, 123, rfl⟩
abbrev main_cst_4 : Ref sig .tc := ⟨.hbm, 124, rfl⟩
abbrev main_call9_v0 : Ref sig .tc := ⟨.hbm, 125, rfl⟩
abbrev main_call9_v1 : Ref sig .tc := ⟨.hbm, 126, rfl⟩
abbrev main_call9_v2 : Ref sig .tc := ⟨.hbm, 127, rfl⟩
abbrev main_v70 : Ref sig .tc := ⟨.hbm, 128, rfl⟩
abbrev main_v71 : Ref sig .tc := ⟨.hbm, 129, rfl⟩
abbrev main_cst_5 : Ref sig .tc := ⟨.hbm, 130, rfl⟩
abbrev main_call10_v0 : Ref sig .tc := ⟨.hbm, 131, rfl⟩
abbrev main_call10_v1 : Ref sig .tc := ⟨.hbm, 132, rfl⟩
abbrev main_call10_v2 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩

abbrev nD : Nat := 1
abbrev τ : Topo := Topo.v7x

variable {F : FTy → Type} [FloatOps F]
-- ==== Proof.KernelIdeal.Proj.Runs.lean ====
/-
  What the runs of the projection (the first kernel call) region share: its windows' blocks, the conditions of its body and its buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input window `w` at grid point `t`, read off the contents `V` of the region's arrays at entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds that window's block when the body runs, for any proof data entered at `V` whose body leaves the block in place. -/
theorem before0_0_of {c : Dev nD} (pd : Dat τ (Elt F) Unit ℕ (UR sig nD τ) ℕ cfg0 c) (hA : pd.A 0 = V c (Pipeline.arrRef spec0 0))
    (hafter : ∀ t, pd.after 0 t = iblk V c 0 t) (t : Fin cfg0.N) (d) : pd.before 0 t d = iblk V c 0 t :=
  (pd.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 1 holds that window's block when the body runs, for any proof data entered at `V` whose body leaves the block in place. -/
theorem before0_1_of {c : Dev nD} (pd : Dat τ (Elt F) Unit ℕ (UR sig nD τ) ℕ cfg0 c) (hA : pd.A 1 = V c (Pipeline.arrRef spec0 1))
    (hafter : ∀ t, pd.after 1 t = iblk V c 1 t) (t : Fin cfg0.N) (d) : pd.before 1 t d = iblk V c 1 t :=
  (pd.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 2 holds that window's block when the body runs, for any proof data entered at `V` whose body leaves the block in place. -/
theorem before0_2_of {c : Dev nD} (pd : Dat τ (Elt F) Unit ℕ (UR sig nD τ) ℕ cfg0 c) (hA : pd.A 2 = V c (Pipeline.arrRef spec0 2))
    (hafter : ∀ t, pd.after 2 t = iblk V c 2 t) (t : Fin cfg0.N) (d) : pd.before 2 t d = iblk V c 2 t :=
  (pd.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The condition of the body's conditional number 0, on the grid coordinates. -/
abbrev cond0_0 (i : grid0.Coords) : Prop := (Scalar.cmpi .ne (Scalar.extui (Scalar.cmpi .eq (BitVec.ofNat 32 (i 1).val) 0#32)) 0#32) = 1#1

/-- The points at which conditional number 0 is taken. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's conditional number 1, on the grid coordinates. -/
abbrev cond0_1 (i : grid0.Coords) : Prop := (Scalar.cmpi .ne (Scalar.extui (Scalar.cmpi .ne (BitVec.ofNat 32 (i 1).val) 0#32)) 0#32) = 1#1

/-- The points at which conditional number 1 is taken. -/
theorem hcond0_1 : ∀ t : Fin cfg0.N, cond0_1 (grid0.coords t) ↔ 1 ≤ t.val % 4 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ 1 ≤ t.val % 4)

/-- The condition of the body's conditional number 2, on the grid coordinates. -/
abbrev cond0_2 (i : grid0.Coords) : Prop := k0_cond3 i = 1#1

/-- The points at which conditional number 2 is taken. -/
theorem hcond0_2 : ∀ t : Fin cfg0.N, cond0_2 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-- Window 0 is in use at these points. -/
theorem liveAt0_0 : ∀ t : Fin cfg0.N, cfg0.idle 0 (grid0.coords t) = false := fun _ => rfl

/-- Window 1 is in use at these points. -/
theorem liveAt0_1 : ∀ t : Fin cfg0.N, cfg0.idle 1 (grid0.coords t) = false := fun _ => rfl

/-- Window 2 is in use at these points. -/
theorem liveAt0_2 : ∀ t : Fin cfg0.N, cfg0.idle 2 (grid0.coords t) = false := fun _ => rfl

/-- In case A the body does not touch window 3. -/
theorem idleAt0_3_A : ∀ t : Fin cfg0.N, cond0_0 (grid0.coords t) → ¬cond0_1 (grid0.coords t) → ¬cond0_2 (grid0.coords t) → cfg0.idle 3 (grid0.coords t) = true := by decide +kernel

/-- In case A window 3 is not written back. -/
theorem noFlush0_3_A : ∀ t : Fin cfg0.N, cond0_0 (grid0.coords t) → ¬cond0_1 (grid0.coords t) → ¬cond0_2 (grid0.coords t) → (cfg0.win 3).flush t = false := by decide +kernel

/-- In case B the body does not touch window 3. -/
theorem idleAt0_3_B : ∀ t : Fin cfg0.N, ¬cond0_0 (grid0.coords t) → cond0_1 (grid0.coords t) → ¬cond0_2 (grid0.coords t) → cfg0.idle 3 (grid0.coords t) = true := by decide +kernel

/-- In case B window 3 is not written back. -/
theorem noFlush0_3_B : ∀ t : Fin cfg0.N, ¬cond0_0 (grid0.coords t) → cond0_1 (grid0.coords t) → ¬cond0_2 (grid0.coords t) → (cfg0.win 3).flush t = false := by decide +kernel

/-- Window 3 is in use at these points. -/
theorem liveAt0_3_C : ∀ t : Fin cfg0.N, ¬cond0_0 (grid0.coords t) → cond0_1 (grid0.coords t) → cond0_2 (grid0.coords t) → cfg0.idle 3 (grid0.coords t) = false := by decide +kernel

/-- In case A the body does not touch window 4. -/
theorem idleAt0_4_A : ∀ t : Fin cfg0.N, cond0_0 (grid0.coords t) → ¬cond0_1 (grid0.coords t) → ¬cond0_2 (grid0.coords t) → cfg0.idle 4 (grid0.coords t) = true := by decide +kernel

/-- In case A window 4 is not written back. -/
theorem noFlush0_4_A : ∀ t : Fin cfg0.N, cond0_0 (grid0.coords t) → ¬cond0_1 (grid0.coords t) → ¬cond0_2 (grid0.coords t) → (cfg0.win 4).flush t = false := by decide +kernel

/-- In case B the body does not touch window 4. -/
theorem idleAt0_4_B : ∀ t : Fin cfg0.N, ¬cond0_0 (grid0.coords t) → cond0_1 (grid0.coords t) → ¬cond0_2 (grid0.coords t) → cfg0.idle 4 (grid0.coords t) = true := by decide +kernel

/-- In case B window 4 is not written back. -/
theorem noFlush0_4_B : ∀ t : Fin cfg0.N, ¬cond0_0 (grid0.coords t) → cond0_1 (grid0.coords t) → ¬cond0_2 (grid0.coords t) → (cfg0.win 4).flush t = false := by decide +kernel

/-- Window 4 is in use at these points. -/
theorem liveAt0_4_C : ∀ t : Fin cfg0.N, ¬cond0_0 (grid0.coords t) → cond0_1 (grid0.coords t) → cond0_2 (grid0.coords t) → cfg0.idle 4 (grid0.coords t) = false := by decide +kernel

/-- A staging buffer of output window 3, through which the contents of that output are stated. -/
abbrev VO0_3 : View sig .tc .vmem S512x1536 .bf16 := (Memref.whole cc0_stg3_0 : Memref sig .tc .vmem S512x1536 .bf16).view

/-- A staging buffer of output window 4, through which the contents of that output are stated. -/
abbrev VO0_4 : View sig .tc .vmem S512x576 .f32 := (Memref.whole cc0_stg4_0 : Memref sig .tc .vmem S512x576 .f32).view

/-- The staging buffer of window 0 at point `t`. -/
abbrev ms0_0 (t : Fin cfg0.N) : Memref sig .tc .vmem S512x1792 .f32 := win0_0.stage (cfg0.slots t 0)

/-- The staging buffer of window 0 is a whole buffer. -/
abbrev hs0_0 (t : Fin cfg0.N) : (ms0_0 t).IsWhole := hstage0_0 ((cfg0.slots t 0).cast nbuf0_0)

/-- The staging buffer of window 1 at point `t`. -/
abbrev ms0_1 (t : Fin cfg0.N) : Memref sig .tc .vmem S1536x1792 .bf16 := win0_1.stage (cfg0.slots t 1)

/-- The staging buffer of window 1 is a whole buffer. -/
abbrev hs0_1 (t : Fin cfg0.N) : (ms0_1 t).IsWhole := hstage0_1 ((cfg0.slots t 1).cast nbuf0_1)

/-- The staging buffer of window 2 at point `t`. -/
abbrev ms0_2 (t : Fin cfg0.N) : Memref sig .tc .vmem S576x1792 .bf16 := win0_2.stage (cfg0.slots t 2)

/-- The staging buffer of window 2 is a whole buffer. -/
abbrev hs0_2 (t : Fin cfg0.N) : (ms0_2 t).IsWhole := hstage0_2 ((cfg0.slots t 2).cast nbuf0_2)

/-- The staging buffer of window 3 at point `t`. -/
abbrev ms0_3 (t : Fin cfg0.N) : Memref sig .tc .vmem S512x1536 .bf16 := win0_3.stage (cfg0.slots t 3)

/-- The staging buffer of window 3 is a whole buffer. -/
abbrev hs0_3 (t : Fin cfg0.N) : (ms0_3 t).IsWhole := hstage0_3 ((cfg0.slots t 3).cast nbuf0_3)

/-- The staging buffer of window 4 at point `t`. -/
abbrev ms0_4 (t : Fin cfg0.N) : Memref sig .tc .vmem S512x576 .f32 := win0_4.stage (cfg0.slots t 4)

/-- The staging buffer of window 4 is a whole buffer. -/
abbrev hs0_4 (t : Fin cfg0.N) : (ms0_4 t).IsWhole := hstage0_4 ((cfg0.slots t 4).cast nbuf0_4)

/-- The scratch buffer number 0. -/
abbrev scM0_0 : Memref sig .tc .vmem S512x1536 .f32 := Memref.whole cc0_scratch0

/-- The scratch buffer number 1. -/
abbrev scM0_1 : Memref sig .tc .vmem S512x576 .f32 := Memref.whole cc0_scratch1

/-- The scratch buffer number 0, as the view its contents are stated through. -/
abbrev VS0_0 : View sig .tc .vmem S512x1536 .f32 := scM0_0.view

/-- The scratch buffer number 1, as the view its contents are stated through. -/
abbrev VS0_1 : View sig .tc .vmem S512x576 .f32 := scM0_1.view

/-- What the region carries untouched: every scoped buffer that is neither one of its staging buffers nor its scratch, at some contents, and the random generator at some state. -/
def Rg (c : Dev nD) : sProp 𝕄 :=
  iprop(Pipeline.scopedRestBut (Ix := Unit) (Name := ℕ) (U := UR sig nD τ) (Lvl := ℕ) (Val := Elt F) spec0 c [cc0_scratch0, cc0_scratch1] ∗ ∃ r, prngReg c r)

/-- The invariant of a region that forgets its scratch: every scratch buffer at some contents, and the random generator at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ Rg c) := by
  unfold Pipeline.ΦA Rg
  rw [Pipeline.scopedRest_split_of_list spec0 c [cc0_scratch0, cc0_scratch1] (by decide) (by decide)]
  simp only [scM0_0, scM0_1, owns_whole]
  exact BI.equiv_iff.mp ⟨BI.sep_assoc, BI.sep_assoc'⟩

end Cert.KernelIdeal.Proj

end
-- ==== Proof.KernelIdeal.Proj.RunA.lean ====
/-
  The run of the projection (the first kernel call) body in case A.
-/
module

public import proofs.«01_k».proof.Proof.KernelIdeal.Proj.Runs

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body stores in case A, as lists of pieces per written buffer, together with the proof that the body, run on whole staging buffers with the given contents, ends with the inputs unchanged and those pieces written. -/
noncomputable def kernelRun0_A (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : cond0_0 i) (hc1 : ¬cond0_1 i) (hc2 : ¬cond0_2 i)
    (x0 : Vec F S512x1792 .f32) (x1 : Vec F S1536x1792 .bf16) (x2 : Vec F S576x1792 .bf16) :
    Σ' (L3 : List (View.Piece (Elt F) S512x1536 .bf16)), Σ' (L4 : List (View.Piece (Elt F) S512x576 .f32)), Σ' (LS0 : List (View.Piece (Elt F) S512x1536 .f32)), { LS1 : List (View.Piece (Elt F) S512x576 .f32) //
      ∀ (xi3 : Vec F S512x1536 .bf16) (xi4 : Vec F S512x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_lsm_proj i arg2 harg2 arg3 harg3 arg4 harg4 arg5 harg5 arg6 harg6 arg7 harg7 arg8 harg8) K } := by
  refine ⟨[], [], ?_, ?_, fun xi3 xi4 E K => ?run⟩
  case run =>
    simp only [cc0_lsm_proj_eq_skeleton]; unfold cc0_lsm_proj_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Proj

end
-- ==== Proof.KernelIdeal.Proj.RunB.lean ====
/-
  The run of the projection (the first kernel call) body in case B.
-/
module

public import proofs.«01_k».proof.Proof.KernelIdeal.Proj.RunA

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body stores in case B, as lists of pieces per written buffer, together with the proof that the body, run on whole staging buffers with the given contents, ends with the inputs unchanged and those pieces written. -/
noncomputable def kernelRun0_B (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : ¬cond0_2 i)
    (x0 : Vec F S512x1792 .f32) (x1 : Vec F S1536x1792 .bf16) (x2 : Vec F S576x1792 .bf16) (xs0 : Vec F S512x1536 .f32) (xs1 : Vec F S512x576 .f32) :
    Σ' (L3 : List (View.Piece (Elt F) S512x1536 .bf16)), Σ' (L4 : List (View.Piece (Elt F) S512x576 .f32)), Σ' (LS0 : List (View.Piece (Elt F) S512x1536 .f32)), { LS1 : List (View.Piece (Elt F) S512x576 .f32) //
      ∀ (xi3 : Vec F S512x1536 .bf16) (xi4 : Vec F S512x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_lsm_proj i arg2 harg2 arg3 harg3 arg4 harg4 arg5 harg5 arg6 harg6 arg7 harg7 arg8 harg8) K } := by
  refine ⟨[], [], ?_, ?_, fun xi3 xi4 E K => ?run⟩
  case run =>
    simp only [cc0_lsm_proj_eq_skeleton]; unfold cc0_lsm_proj_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Proj

end
-- ==== Proof.KernelIdeal.Proj.RunC.lean ====
/-
  The run of the projection (the first kernel call) body in case C.
-/
module

public import proofs.«01_k».proof.Proof.KernelIdeal.Proj.RunB

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body stores in case C, as lists of pieces per written buffer, together with the proof that the body, run on whole staging buffers with the given contents, ends with the inputs unchanged and those pieces written. -/
noncomputable def kernelRun0_C (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) :
    Σ' (L3 : List (View.Piece (Elt F) S512x1536 .bf16)), Σ' (L4 : List (View.Piece (Elt F) S512x576 .f32)), Σ' (LS0 : List (View.Piece (Elt F) S512x1536 .f32)), { LS1 : List (View.Piece (Elt F) S512x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_lsm_proj i arg2 harg2 arg3 harg3 arg4 harg4 arg5 harg5 arg6 harg6 arg7 harg7 arg8 harg8) K } := by
  refine ⟨?_, ?_, ?_, ?_, fun E K => ?run⟩
  case run =>
    simp only [cc0_lsm_proj_eq_skeleton]; unfold cc0_lsm_proj_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Proj

end
-- ==== Proof.KernelIdeal.Proj.Region.lean ====
/-
  The projection (the first kernel call) region: the contents of its buffers after every point, its proof data and its body obligation.
-/
module

public import proofs.«01_k».proof.Proof.KernelIdeal.Proj.RunC
public import Idealize.ShloMosaic.Lib.Claim

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the staging buffer of output 3. -/
def out0_A_3 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : cond0_0 i) (hc1 : ¬cond0_1 i) (hc2 : ¬cond0_2 i)
    (x0 : Vec F S512x1792 .f32) (x1 : Vec F S1536x1792 .bf16) (x2 : Vec F S576x1792 .bf16) : Vec F S512x1536 .bf16 :=
  VO0_3.read (Elt F) (VO0_3.writes (Elt F) VO0_3.junk (kernelRun0_A c i arg2 harg2 arg3 harg3 arg4 harg4 arg5 harg5 arg6 harg6 arg7 harg7 arg8 harg8 hc0 hc1 hc2 x0 x1 x2).1)

/-- What case A leaves in the staging buffer of output 4. -/
def out0_A_4 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : cond0_0 i) (hc1 : ¬cond0_1 i) (hc2 : ¬cond0_2 i)
    (x0 : Vec F S512x1792 .f32) (x1 : Vec F S1536x1792 .bf16) (x2 : Vec F S576x1792 .bf16) : Vec F S512x576 .f32 :=
  VO0_4.read (Elt F) (VO0_4.writes (Elt F) VO0_4.junk (kernelRun0_A c i arg2 harg2 arg3 harg3 arg4 harg4 arg5 harg5 arg6 harg6 arg7 harg7 arg8 harg8 hc0 hc1 hc2 x0 x1 x2).2.1)

/-- In case A the pieces stored to scratch 0 cover it. -/
theorem scover0_A_0 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : cond0_0 i) (hc1 : ¬cond0_1 i) (hc2 : ¬cond0_2 i)
    (x0 : Vec F S512x1792 .f32) (x1 : Vec F S1536x1792 .bf16) (x2 : Vec F S576x1792 .bf16) (y : S512x1536.Idx) :
    ∃ pc ∈ (kernelRun0_A c i arg2 harg2 arg3 harg3 arg4 harg4 arg5 harg5 arg6 harg6 arg7 harg7 arg8 harg8 hc0 hc1 hc2 x0 x1 x2).2.2.1, y ∈ pc.1.set :=
  View.cover_of_tiledL (kernelRun0_A c i arg2 harg2 arg3 harg3 arg4 harg4 arg5 harg5 arg6 harg6 arg7 harg7 arg8 harg8 hc0 hc1 hc2 x0 x1 x2).2.2.1 S512x1536.size (by sl_kernel_rfl) y

/-- What case A leaves in scratch 0. -/
def sout0_A_0 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : cond0_0 i) (hc1 : ¬cond0_1 i) (hc2 : ¬cond0_2 i)
    (x0 : Vec F S512x1792 .f32) (x1 : Vec F S1536x1792 .bf16) (x2 : Vec F S576x1792 .bf16) : Vec F S512x1536 .f32 :=
  VS0_0.read (Elt F) (VS0_0.writes (Elt F) VS0_0.junk (kernelRun0_A c i arg2 harg2 arg3 harg3 arg4 harg4 arg5 harg5 arg6 harg6 arg7 harg7 arg8 harg8 hc0 hc1 hc2 x0 x1 x2).2.2.1)

/-- In case A the pieces stored to scratch 1 cover it. -/
theorem scover0_A_1 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : cond0_0 i) (hc1 : ¬cond0_1 i) (hc2 : ¬cond0_2 i)
    (x0 : Vec F S512x1792 .f32) (x1 : Vec F S1536x1792 .bf16) (x2 : Vec F S576x1792 .bf16) (y : S512x576.Idx) :
    ∃ pc ∈ (kernelRun0_A c i arg2 harg2 arg3 harg3 arg4 harg4 arg5 harg5 arg6 harg6 arg7 harg7 arg8 harg8 hc0 hc1 hc2 x0 x1 x2).2.2.2.1, y ∈ pc.1.set :=
  View.cover_of_tiledL (kernelRun0_A c i arg2 harg2 arg3 harg3 arg4 harg4 arg5 harg5 arg6 harg6 arg7 harg7 arg8 harg8 hc0 hc1 hc2 x0 x1 x2).2.2.2.1 S512x576.size (by sl_kernel_rfl) y

/-- What case A leaves in scratch 1. -/
def sout0_A_1 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : cond0_0 i) (hc1 : ¬cond0_1 i) (hc2 : ¬cond0_2 i)
    (x0 : Vec F S512x1792 .f32) (x1 : Vec F S1536x1792 .bf16) (x2 : Vec F S576x1792 .bf16) : Vec F S512x576 .f32 :=
  VS0_1.read (Elt F) (VS0_1.writes (Elt F) VS0_1.junk (kernelRun0_A c i arg2 harg2 arg3 harg3 arg4 harg4 arg5 harg5 arg6 harg6 arg7 harg7 arg8 harg8 hc0 hc1 hc2 x0 x1 x2).2.2.2.1)

/-- What case B leaves in the staging buffer of output 3. -/
def out0_B_3 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : ¬cond0_2 i)
    (x0 : Vec F S512x1792 .f32) (x1 : Vec F S1536x1792 .bf16) (x2 : Vec F S576x1792 .bf16) (xs0 : Vec F S512x1536 .f32) (xs1 : Vec F S512x576 .f32) : Vec F S512x1536 .bf16 :=
  VO0_3.read (Elt F) (VO0_3.writes (Elt F) VO0_3.junk (kernelRun0_B c i arg2 harg2 arg3 harg3 arg4 harg4 arg5 harg5 arg6 harg6 arg7 harg7 arg8 harg8 hc0 hc1 hc2 x0 x1 x2 xs0 xs1).1)

/-- What case B leaves in the staging buffer of output 4. -/
def out0_B_4 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : ¬cond0_2 i)
    (x0 : Vec F S512x1792 .f32) (x1 : Vec F S1536x1792 .bf16) (x2 : Vec F S576x1792 .bf16) (xs0 : Vec F S512x1536 .f32) (xs1 : Vec F S512x576 .f32) : Vec F S512x576 .f32 :=
  VO0_4.read (Elt F) (VO0_4.writes (Elt F) VO0_4.junk (kernelRun0_B c i arg2 harg2 arg3 harg3 arg4 harg4 arg5 harg5 arg6 harg6 arg7 harg7 arg8 harg8 hc0 hc1 hc2 x0 x1 x2 xs0 xs1).2.1)

/-- In case B the pieces stored to scratch 0 cover it. -/
theorem scover0_B_0 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : ¬cond0_2 i)
    (x0 : Vec F S512x1792 .f32) (x1 : Vec F S1536x1792 .bf16) (x2 : Vec F S576x1792 .bf16) (xs0 : Vec F S512x1536 .f32) (xs1 : Vec F S512x576 .f32) (y : S512x1536.Idx) :
    ∃ pc ∈ (kernelRun0_B c i arg2 harg2 arg3 harg3 arg4 harg4 arg5 harg5 arg6 harg6 arg7 harg7 arg8 harg8 hc0 hc1 hc2 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 hc2 x0 x1 x2 xs0 xs1).2.2.1 S512x1536.size (by sl_kernel_rfl) y

/-- What case B leaves in scratch 0. -/
def sout0_B_0 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : ¬cond0_2 i)
    (x0 : Vec F S512x1792 .f32) (x1 : Vec F S1536x1792 .bf16) (x2 : Vec F S576x1792 .bf16) (xs0 : Vec F S512x1536 .f32) (xs1 : Vec F S512x576 .f32) : Vec F S512x1536 .f32 :=
  VS0_0.read (Elt F) (VS0_0.writes (Elt F) VS0_0.junk (kernelRun0_B c i arg2 harg2 arg3 harg3 arg4 harg4 arg5 harg5 arg6 harg6 arg7 harg7 arg8 harg8 hc0 hc1 hc2 x0 x1 x2 xs0 xs1).2.2.1)

/-- In case B the pieces stored to scratch 1 cover it. -/
theorem scover0_B_1 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : ¬cond0_2 i)
    (x0 : Vec F S512x1792 .f32) (x1 : Vec F S1536x1792 .bf16) (x2 : Vec F S576x1792 .bf16) (xs0 : Vec F S512x1536 .f32) (xs1 : Vec F S512x576 .f32) (y : S512x576.Idx) :
    ∃ pc ∈ (kernelRun0_B c i arg2 harg2 arg3 harg3 arg4 harg4 arg5 harg5 arg6 harg6 arg7 harg7 arg8 harg8 hc0 hc1 hc2 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 hc2 x0 x1 x2 xs0 xs1).2.2.2.1 S512x576.size (by sl_kernel_rfl) y

/-- What case B leaves in scratch 1. -/
def sout0_B_1 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : ¬cond0_2 i)
    (x0 : Vec F S512x1792 .f32) (x1 : Vec F S1536x1792 .bf16) (x2 : Vec F S576x1792 .bf16) (xs0 : Vec F S512x1536 .f32) (xs1 : Vec F S512x576 .f32) : Vec F S512x576 .f32 :=
  VS0_1.read (Elt F) (VS0_1.writes (Elt F) VS0_1.junk (kernelRun0_B c i arg2 harg2 arg3 harg3 arg4 harg4 arg5 harg5 arg6 harg6 arg7 harg7 arg8 harg8 hc0 hc1 hc2 x0 x1 x2 xs0 xs1).2.2.2.1)

/-- In case C the pieces stored to output 3 cover its whole block. -/
theorem cover0_C_3 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) (y : S512x1536.Idx) :
    ∃ pc ∈ (kernelRun0_C c i arg2 harg2 arg3 harg3 arg4 harg4 arg5 harg5 arg6 harg6 arg7 harg7 arg8 harg8 hc0 hc1 hc2 x0 x1 x2 xs0 xs1).1, y ∈ pc.1.set :=
  View.cover_of_tiledL (kernelRun0_C c i arg2 harg2 arg3 harg3 arg4 harg4 arg5 harg5 arg6 harg6 arg7 harg7 arg8 harg8 hc0 hc1 hc2 x0 x1 x2 xs0 xs1).1 S512x1536.size (by sl_kernel_rfl) y

/-- What case C leaves in the staging buffer of output 3. -/
def out0_C_3 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) : Vec F S512x1536 .bf16 :=
  VO0_3.read (Elt F) (VO0_3.writes (Elt F) VO0_3.junk (kernelRun0_C c i arg2 harg2 arg3 harg3 arg4 harg4 arg5 harg5 arg6 harg6 arg7 harg7 arg8 harg8 hc0 hc1 hc2 x0 x1 x2 xs0 xs1).1)

/-- In case C the pieces stored to output 4 cover its whole block. -/
theorem cover0_C_4 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) (y : S512x576.Idx) :
    ∃ pc ∈ (kernelRun0_C c i arg2 harg2 arg3 harg3 arg4 harg4 arg5 harg5 arg6 harg6 arg7 harg7 arg8 harg8 hc0 hc1 hc2 x0 x1 x2 xs0 xs1).2.1, y ∈ pc.1.set :=
  View.cover_of_tiledL (kernelRun0_C c i arg2 harg2 arg3 harg3 arg4 harg4 arg5 harg5 arg6 harg6 arg7 harg7 arg8 harg8 hc0 hc1 hc2 x0 x1 x2 xs0 xs1).2.1 S512x576.size (by sl_kernel_rfl) y

/-- What case C leaves in the staging buffer of output 4. -/
def out0_C_4 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) : Vec F S512x576 .f32 :=
  VO0_4.read (Elt F) (VO0_4.writes (Elt F) VO0_4.junk (kernelRun0_C c i arg2 harg2 arg3 harg3 arg4 harg4 arg5 harg5 arg6 harg6 arg7 harg7 arg8 harg8 hc0 hc1 hc2 x0 x1 x2 xs0 xs1).2.1)

/-- In case C the pieces stored to scratch 0 cover it. -/
theorem scover0_C_0 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) (y : S512x1536.Idx) :
    ∃ pc ∈ (kernelRun0_C c i arg2 harg2 arg3 harg3 arg4 harg4 arg5 harg5 arg6 harg6 arg7 harg7 arg8 harg8 hc0 hc1 hc2 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 hc2 x0 x1 x2 xs0 xs1).2.2.1 S512x1536.size (by sl_kernel_rfl) y

/-- What case C leaves in scratch 0. -/
def sout0_C_0 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) : Vec F S512x1536 .f32 :=
  VS0_0.read (Elt F) (VS0_0.writes (Elt F) VS0_0.junk (kernelRun0_C c i arg2 harg2 arg3 harg3 arg4 harg4 arg5 harg5 arg6 harg6 arg7 harg7 arg8 harg8 hc0 hc1 hc2 x0 x1 x2 xs0 xs1).2.2.1)

/-- In case C the pieces stored to scratch 1 cover it. -/
theorem scover0_C_1 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) (y : S512x576.Idx) :
    ∃ pc ∈ (kernelRun0_C c i arg2 harg2 arg3 harg3 arg4 harg4 arg5 harg5 arg6 harg6 arg7 harg7 arg8 harg8 hc0 hc1 hc2 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 hc2 x0 x1 x2 xs0 xs1).2.2.2.1 S512x576.size (by sl_kernel_rfl) y

/-- What case C leaves in scratch 1. -/
def sout0_C_1 (c : Dev nD) (i : grid0.Coords) (arg2 : Memref sig .tc .vmem S512x1792 .f32) (harg2 : arg2.IsWhole) (arg3 : Memref sig .tc .vmem S1536x1792 .bf16) (harg3 : arg3.IsWhole) (arg4 : Memref sig .tc .vmem S576x1792 .bf16) (harg4 : arg4.IsWhole) (arg5 : Memref sig .tc .vmem S512x1536 .bf16) (harg5 : arg5.IsWhole) (arg6 : Memref sig .tc .vmem S512x576 .f32) (harg6 : arg6.IsWhole) (arg7 : Memref sig .tc .vmem S512x1536 .f32) (harg7 : arg7.IsWhole) (arg8 : Memref sig .tc .vmem S512x576 .f32) (harg8 : arg8.IsWhole) (hc0 : ¬cond0_0 i) (hc1 : cond0_1 i) (hc2 : cond0_2 i)
    (x0 : Vec F S512x1792 .f32) (x1 : Vec F S1536x1792 .bf16) (x2 : Vec F S576x1792 .bf16) (xs0 : Vec F S512x1536 .f32) (xs1 : Vec F S512x576 .f32) : Vec F S512x576 .f32 :=
  VS0_1.read (Elt F) (VS0_1.writes (Elt F) VS0_1.junk (kernelRun0_C c i arg2 harg2 arg3 harg3 arg4 harg4 arg5 harg5 arg6 harg6 arg7 harg7 arg8 harg8 hc0 hc1 hc2 x0 x1 x2 xs0 xs1).2.2.2.1)

/-- What the output buffers and the scratch buffers carried between points hold after the body at position `n`, by recursion on `n`. -/
def outsAt0 (c : Dev nD) : (n : ℕ) → n < cfg0.N → Vec F S512x1536 .bf16 × Vec F S512x576 .f32 × Vec F S512x1536 .f32 × Vec F S512x576 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩))
  | n + 1, hn =>
    if h0 : (n + 1) % 4 = 0 then
      if h1 : 1 ≤ (n + 1) % 4 then
        False.elim (by have hN : n + 1 < 16 := lt_of_lt_of_eq hn (show cfg0.N = 16 from N_0); omega)
      else
        if h2 : (n + 1) % 4 = 3 then
          False.elim (by have hN : n + 1 < 16 := lt_of_lt_of_eq hn (show cfg0.N = 16 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩))
    else
      if h1 : 1 ≤ (n + 1) % 4 then
        if h2 : (n + 1) % 4 = 3 then
          (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2)
        else
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2)
      else
        False.elim (by have hN : n + 1 < 16 := lt_of_lt_of_eq hn (show cfg0.N = 16 from N_0); omega)

/-- `outsAt` at a point of case A. -/
theorem outsAt0_A (c : Dev nD) (t : Fin cfg0.N) (h0 : t.val % 4 = 0) (h1 : ¬1 ≤ t.val % 4) (h2 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (iblk V c 0 t) (iblk V c 1 t) (iblk V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (iblk V c 0 t) (iblk V c 1 t) (iblk V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (iblk V c 0 t) (iblk V c 1 t) (iblk V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (iblk V c 0 t) (iblk V c 1 t) (iblk V c 2 t)) := by
  obtain ⟨n, hn⟩ := t
  cases n with
  | zero => exact rfl
  | succ n => exact (dif_pos h0).trans ((dif_neg h1).trans ((dif_neg h2).trans rfl))

/-- `outsAt` at a point of case B. -/
theorem outsAt0_B (c : Dev nD) (t : Fin cfg0.N) (h0 : ¬t.val % 4 = 0) (h1 : 1 ≤ t.val % 4) (h2 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (fun h => h2 ((hcond0_2 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt` at a point of case C. -/
theorem outsAt0_C (c : Dev nD) (t : Fin cfg0.N) (h0 : ¬t.val % 4 = 0) (h1 : 1 ≤ t.val % 4) (h2 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) ((hcond0_2 t).mpr h2) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) ((hcond0_2 t).mpr h2) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) ((hcond0_2 t).mpr h2) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) ((hcond0_2 t).mpr h2) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The invariant before position `n`: the carried scratch buffers hold what the point before left in them (anything before the first point). -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2)) ∗ Rg c)

/-- The invariant before the first point. -/
theorem PhiS_zero (c : Dev nD) (n : ℕ) (h : n ≤ cfg0.N) (hz : n = 0) : PhiS V c n h = Pipeline.ΦA spec0 c := by
  subst hz; rfl

/-- The invariant after point `n`. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2)) ∗ Rg c) := rfl

/-- The invariant before a point that is not the first. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2)) ∗ Rg c) := by
  cases n with
  | zero => exact absurd rfl hz
  | succ n => rfl

/-- The proof data of the region on core `c`: the arrays at `V` on entry, each input buffer at its block and each output buffer at `outsAt` after every point, nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

/-- The region is entered with its arrays at `V`. -/
theorem A_eq (c : Dev nD) (w : Fin cfg0.W) : (dat V c).A w = V c (Pipeline.arrRef spec0 w) := by
  dsimp only [dat]

/-- The invariant at the start of a point. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves in the staging buffer of window 0. -/
theorem after0_0 (c : Dev nD) (t : Fin cfg0.N) : (dat V c).after 0 t = iblk V c 0 t := by dsimp only [dat]

/-- What the body leaves in the staging buffer of window 1. -/
theorem after0_1 (c : Dev nD) (t : Fin cfg0.N) : (dat V c).after 1 t = iblk V c 1 t := by dsimp only [dat]

/-- What the body leaves in the staging buffer of window 2. -/
theorem after0_2 (c : Dev nD) (t : Fin cfg0.N) : (dat V c).after 2 t = iblk V c 2 t := by dsimp only [dat]

/-- What the body leaves in the staging buffer of window 3. -/
theorem after0_3 (c : Dev nD) (t : Fin cfg0.N) : (dat V c).after 3 t = (outsAt0 V c t.val t.isLt).1 := by dsimp only [dat]

/-- What the body leaves in the staging buffer of window 4. -/
theorem after0_4 (c : Dev nD) (t : Fin cfg0.N) : (dat V c).after 4 t = (outsAt0 V c t.val t.isLt).2.1 := by dsimp only [dat]

/-- The staging buffer of input window 0 holds that window's block when the body runs. -/
theorem before0_0 (c : Dev nD) (t : Fin cfg0.N) (d) : (dat V c).before 0 t d = iblk V c 0 t :=
  before0_0_of V (dat V c) (A_eq V c 0) (after0_0 V c) t d

/-- The staging buffer of input window 1 holds that window's block when the body runs. -/
theorem before0_1 (c : Dev nD) (t : Fin cfg0.N) (d) : (dat V c).before 1 t d = iblk V c 1 t :=
  before0_1_of V (dat V c) (A_eq V c 1) (after0_1 V c) t d

/-- The staging buffer of input window 2 holds that window's block when the body runs. -/
theorem before0_2 (c : Dev nD) (t : Fin cfg0.N) (d) : (dat V c).before 2 t d = iblk V c 2 t :=
  before0_2_of V (dat V c) (A_eq V c 2) (after0_2 V c) t d

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

/-- What the body returns at point `t`. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body's triple at every point: the case is selected by the point's position, and that case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  by_cases h0 : t.val % 4 = 0
  · by_cases h1 : 1 ≤ t.val % 4
    · exfalso; omega
    · by_cases h2 : t.val % 4 = 3
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [Dat.leavesExact_idle (dat V c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        rw [Dat.leavesExact_idle (dat V c) 4 t (idleAt0_4_A t ((hcond0_0 t).mpr h0) (fun h => h1 ((hcond0_1 t).mp h)) (fun h => h2 ((hcond0_2 t).mp h))) (noFlush0_4_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t)).2.2.2.2 _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iintro ⟨H0, H1, H2, H3, H4, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexists _; iexact H3
          iexists _; iexact H4
        · rw [PhiS_castSucc V c t, PhiS_pos V c _ _ hz]
          rw [outsAt0_A V c t h0 h1 h2]
          unfold sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t)).2.2.2.2 _ _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          iintro ⟨H0, H1, H2, H3, H4, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexists _; iexact H3
          iexists _; iexact H4
  · by_cases h1 : 1 ≤ t.val % 4
    · by_cases h2 : t.val % 4 = 3
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3_C t (fun h => h0 ((hcond0_0 t).mp h)) ((hcond0_1 t).mpr h1) ((hcond0_2 t).mpr h2)], after0_3]
        rw [show (dat V c).leavesExact 4 t = owns (c : Thread nD τ) (ms0_4 t) fullShare ((dat V c).after 4 t) from by
      unfold Dat.leavesExact; rw [liveAt0_4_C t (fun h => h0 ((hcond0_0 t).mp h)) ((hcond0_1 t).mpr h1) ((hcond0_2 t).mpr h2)], after0_4]
        by_cases hz : t.val = 0
        · exfalso; have hN : t.val < 16 := lt_of_lt_of_eq t.isLt (show cfg0.N = 16 from N_0); omega
        · rw [PhiS_castSucc V c t, PhiS_pos V c _ _ hz]
          rw [outsAt0_C V c t h0 h1 h2]
          unfold out0_C_3 out0_C_4 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ (fun h => h0 ((hcond0_0 t).mp h)) ((hcond0_1 t).mpr h1) ((hcond0_2 t).mpr h2) (iblk V c 0 t) (iblk V c 1 t) (iblk V c 2 t) _ _).2.2.2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          isplitl [HS1]; · iexact HS1
          iintro ⟨H0, H1, H2, ⟨%e3, H3⟩, ⟨%e4, H4⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 c _ _ _ _ _ _ _ _ _ _ _ _ _ _ _ _ _ _ _ _ _ _ _)
          unfold owns; iexists _; isplitr
          swap; · iexact H4
          ipureintro; exact View.read_writes_of_cover _ _ _ _ _ (cover0_C_4 c _ _ _ _ _ _ _ _ _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [Dat.leavesExact_idle (dat V c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        rw [Dat.leavesExact_idle (dat V c) 4 t (idleAt0_4_B t (fun h => h0 ((hcond0_0 t).mp h)) ((hcond0_1 t).mpr h1) (fun h => h2 ((hcond0_2 t).mp h))) (noFlush0_4_B t (fun h => h0 ((hcond0_0 t).mp h)) ((hcond0_1 t).mpr h1) (fun h => h2 ((hcond0_2 t).mp h)))]
        by_cases hz : t.val = 0
        · exfalso; have hN : t.val < 16 := lt_of_lt_of_eq t.isLt (show cfg0.N = 16 from N_0); omega
        · rw [PhiS_castSucc V c t, PhiS_pos V c _ _ hz]
          rw [outsAt0_B V c t h0 h1 h2]
          unfold sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) _ _).2.2.2.2 _ _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iintro ⟨H0, H1, H2, H3, H4, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexists _; iexact H3
          iexists _; iexact H4
    · exfalso; omega

/-- The body called at a point is the kernel function on that point's staging buffers. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region gives the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the region's scratch back. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- After the last point the invariant gives the region's scratch back. -/
theorem hout (c : Dev nD) : (dat V c).Φ (Fin.last cfg0.N) ⊢ Pipeline.ΦA spec0 c :=
  Phi_out V c _ (by rw [Fin.val_last]; have : cfg0.N = 16 := N_0; omega)

end Cert.KernelIdeal.Proj

end
-- ==== Proof.KernelIdeal.Ssd.Runs.lean ====
/-
  What the runs of the scan (the second kernel call) region share: its windows' blocks, the conditions of its body and its buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of input window `w` at grid point `t`, read off the contents `V` of the region's arrays at entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds that window's block when the body runs, for any proof data entered at `V` whose body leaves the block in place. -/
theorem before1_0_of {c : Dev nD} (pd : Dat τ (Elt F) Unit ℕ (UR sig nD τ) ℕ cfg1 c) (hA : pd.A 0 = V c (Pipeline.arrRef spec1 0))
    (hafter : ∀ t, pd.after 0 t = iblk V c 0 t) (t : Fin cfg1.N) (d) : pd.before 0 t d = iblk V c 0 t :=
  (pd.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 1 holds that window's block when the body runs, for any proof data entered at `V` whose body leaves the block in place. -/
theorem before1_1_of {c : Dev nD} (pd : Dat τ (Elt F) Unit ℕ (UR sig nD τ) ℕ cfg1 c) (hA : pd.A 1 = V c (Pipeline.arrRef spec1 1))
    (hafter : ∀ t, pd.after 1 t = iblk V c 1 t) (t : Fin cfg1.N) (d) : pd.before 1 t d = iblk V c 1 t :=
  (pd.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 2 holds that window's block when the body runs, for any proof data entered at `V` whose body leaves the block in place. -/
theorem before1_2_of {c : Dev nD} (pd : Dat τ (Elt F) Unit ℕ (UR sig nD τ) ℕ cfg1 c) (hA : pd.A 2 = V c (Pipeline.arrRef spec1 2))
    (hafter : ∀ t, pd.after 2 t = iblk V c 2 t) (t : Fin cfg1.N) (d) : pd.before 2 t d = iblk V c 2 t :=
  (pd.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 3 holds that window's block when the body runs, for any proof data entered at `V` whose body leaves the block in place. -/
theorem before1_3_of {c : Dev nD} (pd : Dat τ (Elt F) Unit ℕ (UR sig nD τ) ℕ cfg1 c) (hA : pd.A 3 = V c (Pipeline.arrRef spec1 3))
    (hafter : ∀ t, pd.after 3 t = iblk V c 3 t) (t : Fin cfg1.N) (d) : pd.before 3 t d = iblk V c 3 t :=
  (pd.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 4 holds that window's block when the body runs, for any proof data entered at `V` whose body leaves the block in place. -/
theorem before1_4_of {c : Dev nD} (pd : Dat τ (Elt F) Unit ℕ (UR sig nD τ) ℕ cfg1 c) (hA : pd.A 4 = V c (Pipeline.arrRef spec1 4))
    (hafter : ∀ t, pd.after 4 t = iblk V c 4 t) (t : Fin cfg1.N) (d) : pd.before 4 t d = iblk V c 4 t :=
  (pd.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 5 holds that window's block when the body runs, for any proof data entered at `V` whose body leaves the block in place. -/
theorem before1_5_of {c : Dev nD} (pd : Dat τ (Elt F) Unit ℕ (UR sig nD τ) ℕ cfg1 c) (hA : pd.A 5 = V c (Pipeline.arrRef spec1 5))
    (hafter : ∀ t, pd.after 5 t = iblk V c 5 t) (t : Fin cfg1.N) (d) : pd.before 5 t d = iblk V c 5 t :=
  (pd.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 6 holds that window's block when the body runs, for any proof data entered at `V` whose body leaves the block in place. -/
theorem before1_6_of {c : Dev nD} (pd : Dat τ (Elt F) Unit ℕ (UR sig nD τ) ℕ cfg1 c) (hA : pd.A 6 = V c (Pipeline.arrRef spec1 6))
    (hafter : ∀ t, pd.after 6 t = iblk V c 6 t) (t : Fin cfg1.N) (d) : pd.before 6 t d = iblk V c 6 t :=
  (pd.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 7 holds that window's block when the body runs, for any proof data entered at `V` whose body leaves the block in place. -/
theorem before1_7_of {c : Dev nD} (pd : Dat τ (Elt F) Unit ℕ (UR sig nD τ) ℕ cfg1 c) (hA : pd.A 7 = V c (Pipeline.arrRef spec1 7))
    (hafter : ∀ t, pd.after 7 t = iblk V c 7 t) (t : Fin cfg1.N) (d) : pd.before 7 t d = iblk V c 7 t :=
  (pd.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The condition of the body's conditional number 0, on the grid coordinates. -/
abbrev cond1_0 (i : grid1.Coords) : Prop := (Scalar.cmpi .ne (Scalar.extui (Scalar.cmpi .eq (BitVec.ofNat 32 (i 1).val) 0#32)) 0#32) = 1#1

/-- The points at which conditional number 0 is taken. -/
theorem hcond1_0 : ∀ t : Fin cfg1.N, cond1_0 (grid1.coords t) ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

/-- A staging buffer of output window 8, through which the contents of that output are stated. -/
abbrev VO1_8 : View sig .tc .vmem S256x16x128 .f32 := (Memref.whole cc1_stg8_0 : Memref sig .tc .vmem S256x16x128 .f32).view

/-- The staging buffer of window 0 at point `t`. -/
abbrev ms1_0 (t : Fin cfg1.N) : Memref sig .tc .vmem S256x1536 .bf16 := win1_0.stage (cfg1.slots t 0)

/-- The staging buffer of window 0 is a whole buffer. -/
abbrev hs1_0 (t : Fin cfg1.N) : (ms1_0 t).IsWhole := hstage1_0 ((cfg1.slots t 0).cast nbuf1_0)

/-- The staging buffer of window 1 at point `t`. -/
abbrev ms1_1 (t : Fin cfg1.N) : Memref sig .tc .vmem S256x576 .f32 := win1_1.stage (cfg1.slots t 1)

/-- The staging buffer of window 1 is a whole buffer. -/
abbrev hs1_1 (t : Fin cfg1.N) : (ms1_1 t).IsWhole := hstage1_1 ((cfg1.slots t 1).cast nbuf1_1)

/-- The staging buffer of window 2 at point `t`. -/
abbrev ms1_2 (t : Fin cfg1.N) : Memref sig .tc .vmem S2048x1536 .bf16 := win1_2.stage (cfg1.slots t 2)

/-- The staging buffer of window 2 is a whole buffer. -/
abbrev hs1_2 (t : Fin cfg1.N) : (ms1_2 t).IsWhole := hstage1_2 ((cfg1.slots t 2).cast nbuf1_2)

/-- The staging buffer of window 3 at point `t`. -/
abbrev ms1_3 (t : Fin cfg1.N) : Memref sig .tc .vmem S1024x1536 .bf16 := win1_3.stage (cfg1.slots t 3)

/-- The staging buffer of window 3 is a whole buffer. -/
abbrev hs1_3 (t : Fin cfg1.N) : (ms1_3 t).IsWhole := hstage1_3 ((cfg1.slots t 3).cast nbuf1_3)

/-- The staging buffer of window 4 at point `t`. -/
abbrev ms1_4 (t : Fin cfg1.N) : Memref sig .tc .vmem S2048x512 .bf16 := win1_4.stage (cfg1.slots t 4)

/-- The staging buffer of window 4 is a whole buffer. -/
abbrev hs1_4 (t : Fin cfg1.N) : (ms1_4 t).IsWhole := hstage1_4 ((cfg1.slots t 4).cast nbuf1_4)

/-- The staging buffer of window 5 at point `t`. -/
abbrev ms1_5 (t : Fin cfg1.N) : Memref sig .tc .vmem S2048x512 .bf16 := win1_5.stage (cfg1.slots t 5)

/-- The staging buffer of window 5 is a whole buffer. -/
abbrev hs1_5 (t : Fin cfg1.N) : (ms1_5 t).IsWhole := hstage1_5 ((cfg1.slots t 5).cast nbuf1_5)

/-- The staging buffer of window 6 at point `t`. -/
abbrev ms1_6 (t : Fin cfg1.N) : Memref sig .tc .vmem S1x1x16 .f32 := win1_6.stage (cfg1.slots t 6)

/-- The staging buffer of window 6 is a whole buffer. -/
abbrev hs1_6 (t : Fin cfg1.N) : (ms1_6 t).IsWhole := hstage1_6 ((cfg1.slots t 6).cast nbuf1_6)

/-- The staging buffer of window 7 at point `t`. -/
abbrev ms1_7 (t : Fin cfg1.N) : Memref sig .tc .vmem S16x2048 .bf16 := win1_7.stage (cfg1.slots t 7)

/-- The staging buffer of window 7 is a whole buffer. -/
abbrev hs1_7 (t : Fin cfg1.N) : (ms1_7 t).IsWhole := hstage1_7 ((cfg1.slots t 7).cast nbuf1_7)

/-- The staging buffer of window 8 at point `t`. -/
abbrev ms1_8 (t : Fin cfg1.N) : Memref sig .tc .vmem S256x16x128 .f32 := win1_8.stage (cfg1.slots t 8)

/-- The staging buffer of window 8 is a whole buffer. -/
abbrev hs1_8 (t : Fin cfg1.N) : (ms1_8 t).IsWhole := hstage1_8 ((cfg1.slots t 8).cast nbuf1_8)

/-- The scratch buffer number 0. -/
abbrev scM1_0 : Memref sig .tc .vmem S16x128x128 .f32 := Memref.whole cc1_scratch0

/-- The scratch buffer number 0, as the view its contents are stated through. -/
abbrev VS1_0 : View sig .tc .vmem S16x128x128 .f32 := scM1_0.view

/-- What the region carries untouched: every scoped buffer that is neither one of its staging buffers nor its scratch, at some contents, and the random generator at some state. -/
def Rg (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The invariant of a region that forgets its scratch: every scratch buffer at some contents, and the random generator at some state. -/
theorem PhiA1_eq (c : Dev nD) :
    (Pipeline.ΦA spec1 c : sProp 𝕄)
      = iprop(iprop((∃ d, owns (c : Thread nD τ) scM1_0 fullShare d)) ∗ Rg c) := by
  unfold Pipeline.ΦA Rg
  rw [Pipeline.scopedRest_split_of_list spec1 c [cc1_scratch0] (by decide) (by decide)]
  simp only [scM1_0, owns_whole]
  exact BI.equiv_iff.mp ⟨BI.sep_assoc, BI.sep_assoc'⟩

end Cert.KernelIdeal.Ssd

end
-- ==== Proof.KernelIdeal.Ssd.RunA.lean ====
/-
  The run of the scan (the second kernel call) body in case A.
-/
module

public import proofs.«01_k».proof.Proof.KernelIdeal.Ssd.Runs

@[expose] public section

set_option maxRecDepth 16384

noncomputable section

namespace Cert.KernelIdeal.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body stores in case A, as lists of pieces per written buffer, together with the proof that the body, run on whole staging buffers with the given contents, ends with the inputs unchanged and those pieces written. -/
noncomputable def kernelRun1_A (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) :
    Σ' (L8 : List (View.Piece (Elt F) S256x16x128 .f32)), { LS0 : List (View.Piece (Elt F) S16x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1_lsm_ssd i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_lsm_ssd_eq_skeleton]; unfold cc1_lsm_ssd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Ssd

end
-- ==== Proof.KernelIdeal.Ssd.RunB.lean ====
/-
  The run of the scan (the second kernel call) body in case B.
-/
module

public import proofs.«01_k».proof.Proof.KernelIdeal.Ssd.RunA

@[expose] public section

set_option maxRecDepth 16384

noncomputable section

namespace Cert.KernelIdeal.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body stores in case B, as lists of pieces per written buffer, together with the proof that the body, run on whole staging buffers with the given contents, ends with the inputs unchanged and those pieces written. -/
noncomputable def kernelRun1_B (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : ¬cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) (xs0 : Vec F S16x128x128 .f32) :
    Σ' (L8 : List (View.Piece (Elt F) S256x16x128 .f32)), { LS0 : List (View.Piece (Elt F) S16x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1_lsm_ssd i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_lsm_ssd_eq_skeleton]; unfold cc1_lsm_ssd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Ssd

end
-- ==== Proof.KernelIdeal.Ssd.Region.lean ====
/-
  The scan (the second kernel call) region: the contents of its buffers after every point, its proof data and its body obligation.
-/
module

public import proofs.«01_k».proof.Proof.KernelIdeal.Ssd.RunB
public import Idealize.ShloMosaic.Lib.Claim

@[expose] public section

set_option maxRecDepth 16384

noncomputable section

namespace Cert.KernelIdeal.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In case A the pieces stored to output 8 cover its whole block. -/
theorem cover1_A_8 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) (y : S256x16x128.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).1 S256x1x128.size (by sl_kernel_rfl) y

/-- What case A leaves in the staging buffer of output 8. -/
def out1_A_8 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) : Vec F S256x16x128 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 x0 x1 x2 x3 x4 x5 x6 x7).1)

/-- In case A the pieces stored to scratch 0 cover it. -/
theorem scover1_A_0 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) (y : S16x128x128.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_wholeMem (kernelRun1_A c i arg2 harg2 arg3 harg3 arg4 harg4 arg5 harg5 arg6 harg6 arg7 harg7 arg8 harg8 arg9 harg9 arg10 harg10 arg11 harg11 hc0 x0 x1 x2 x3 x4 x5 x6 x7).2.1 (by sl_whole_mem) y

/-- What case A leaves in scratch 0. -/
def sout1_A_0 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) : Vec F S16x128x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 x6 x7).2.1)

/-- In case B the pieces stored to output 8 cover its whole block. -/
theorem cover1_B_8 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : ¬cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) (xs0 : Vec F S16x128x128 .f32) (y : S256x16x128.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 x7 xs0).1 S256x1x128.size (by sl_kernel_rfl) y

/-- What case B leaves in the staging buffer of output 8. -/
def out1_B_8 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : ¬cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) (xs0 : Vec F S16x128x128 .f32) : Vec F S256x16x128 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 x6 x7 xs0).1)

/-- In case B the pieces stored to scratch 0 cover it. -/
theorem scover1_B_0 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : ¬cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) (xs0 : Vec F S16x128x128 .f32) (y : S16x128x128.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 x7 xs0).2.1 S1x128x128.size (by sl_kernel_rfl) y

/-- What case B leaves in scratch 0. -/
def sout1_B_0 (c : Dev nD) (i : grid1.Coords) (arg2 : Memref sig .tc .vmem S256x1536 .bf16) (harg2 : arg2.IsWhole) (arg3 : Memref sig .tc .vmem S256x576 .f32) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x1x16 .f32) (harg8 : arg8.IsWhole) (arg9 : Memref sig .tc .vmem S16x2048 .bf16) (harg9 : arg9.IsWhole) (arg10 : Memref sig .tc .vmem S256x16x128 .f32) (harg10 : arg10.IsWhole) (arg11 : Memref sig .tc .vmem S16x128x128 .f32) (harg11 : arg11.IsWhole) (hc0 : ¬cond1_0 i)
    (x0 : Vec F S256x1536 .bf16) (x1 : Vec F S256x576 .f32) (x2 : Vec F S2048x1536 .bf16) (x3 : Vec F S1024x1536 .bf16) (x4 : Vec F S2048x512 .bf16) (x5 : Vec F S2048x512 .bf16) (x6 : Vec F S1x1x16 .f32) (x7 : Vec F S16x2048 .bf16) (xs0 : Vec F S16x128x128 .f32) : Vec F S16x128x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 x0 x1 x2 x3 x4 x5 x6 x7 xs0).2.1)

/-- What the output buffers and the scratch buffers carried between points hold after the body at position `n`, by recursion on `n`. -/
def outsAt1 (c : Dev nD) : (n : ℕ) → n < cfg1.N → Vec F S256x16x128 .f32 × Vec F S16x128x128 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 8 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2)

/-- `outsAt` at a point of case A. -/
theorem outsAt1_A (c : Dev nD) (t : Fin cfg1.N) (h0 : t.val % 8 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

/-- `outsAt` at a point of case B. -/
theorem outsAt1_B (c : Dev nD) (t : Fin cfg1.N) (h0 : ¬t.val % 8 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: the carried scratch buffers hold what the point before left in them (anything before the first point). -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ Rg c)

/-- The invariant before the first point. -/
theorem PhiS_zero (c : Dev nD) (n : ℕ) (h : n ≤ cfg1.N) (hz : n = 0) : PhiS V c n h = Pipeline.ΦA spec1 c := by
  subst hz; rfl

/-- The invariant after point `n`. -/
theorem PhiS_succ (c : Dev nD) (n : ℕ) (hn : n < cfg1.N) :
    PhiS V c (n + 1) hn = iprop(iprop(owns (c : Thread nD τ) scM1_0 fullShare ((outsAt1 V c n hn).2)) ∗ Rg c) := rfl

/-- The invariant before a point that is not the first. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ Rg c) := by
  cases n with
  | zero => exact absurd rfl hz
  | succ n => rfl

/-- The proof data of the region on core `c`: the arrays at `V` on entry, each input buffer at its block and each output buffer at `outsAt` after every point, nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t.val t.isLt).1
  Φ t := PhiS V c t.val (Nat.le_of_lt_succ t.isLt)
  q _ := fullShare
  owed _ := 0

/-- The region is entered with its arrays at `V`. -/
theorem A_eq (c : Dev nD) (w : Fin cfg1.W) : (dat V c).A w = V c (Pipeline.arrRef spec1 w) := by
  dsimp only [dat]

/-- The invariant at the start of a point. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves in the staging buffer of window 0. -/
theorem after1_0 (c : Dev nD) (t : Fin cfg1.N) : (dat V c).after 0 t = iblk V c 0 t := by dsimp only [dat]

/-- What the body leaves in the staging buffer of window 1. -/
theorem after1_1 (c : Dev nD) (t : Fin cfg1.N) : (dat V c).after 1 t = iblk V c 1 t := by dsimp only [dat]

/-- What the body leaves in the staging buffer of window 2. -/
theorem after1_2 (c : Dev nD) (t : Fin cfg1.N) : (dat V c).after 2 t = iblk V c 2 t := by dsimp only [dat]

/-- What the body leaves in the staging buffer of window 3. -/
theorem after1_3 (c : Dev nD) (t : Fin cfg1.N) : (dat V c).after 3 t = iblk V c 3 t := by dsimp only [dat]

/-- What the body leaves in the staging buffer of window 4. -/
theorem after1_4 (c : Dev nD) (t : Fin cfg1.N) : (dat V c).after 4 t = iblk V c 4 t := by dsimp only [dat]

/-- What the body leaves in the staging buffer of window 5. -/
theorem after1_5 (c : Dev nD) (t : Fin cfg1.N) : (dat V c).after 5 t = iblk V c 5 t := by dsimp only [dat]

/-- What the body leaves in the staging buffer of window 6. -/
theorem after1_6 (c : Dev nD) (t : Fin cfg1.N) : (dat V c).after 6 t = iblk V c 6 t := by dsimp only [dat]

/-- What the body leaves in the staging buffer of window 7. -/
theorem after1_7 (c : Dev nD) (t : Fin cfg1.N) : (dat V c).after 7 t = iblk V c 7 t := by dsimp only [dat]

/-- What the body leaves in the staging buffer of window 8. -/
theorem after1_8 (c : Dev nD) (t : Fin cfg1.N) : (dat V c).after 8 t = (outsAt1 V c t.val t.isLt).1 := by dsimp only [dat]

/-- The staging buffer of input window 0 holds that window's block when the body runs. -/
theorem before1_0 (c : Dev nD) (t : Fin cfg1.N) (d) : (dat V c).before 0 t d = iblk V c 0 t :=
  before1_0_of V (dat V c) (A_eq V c 0) (after1_0 V c) t d

/-- The staging buffer of input window 1 holds that window's block when the body runs. -/
theorem before1_1 (c : Dev nD) (t : Fin cfg1.N) (d) : (dat V c).before 1 t d = iblk V c 1 t :=
  before1_1_of V (dat V c) (A_eq V c 1) (after1_1 V c) t d

/-- The staging buffer of input window 2 holds that window's block when the body runs. -/
theorem before1_2 (c : Dev nD) (t : Fin cfg1.N) (d) : (dat V c).before 2 t d = iblk V c 2 t :=
  before1_2_of V (dat V c) (A_eq V c 2) (after1_2 V c) t d

/-- The staging buffer of input window 3 holds that window's block when the body runs. -/
theorem before1_3 (c : Dev nD) (t : Fin cfg1.N) (d) : (dat V c).before 3 t d = iblk V c 3 t :=
  before1_3_of V (dat V c) (A_eq V c 3) (after1_3 V c) t d

/-- The staging buffer of input window 4 holds that window's block when the body runs. -/
theorem before1_4 (c : Dev nD) (t : Fin cfg1.N) (d) : (dat V c).before 4 t d = iblk V c 4 t :=
  before1_4_of V (dat V c) (A_eq V c 4) (after1_4 V c) t d

/-- The staging buffer of input window 5 holds that window's block when the body runs. -/
theorem before1_5 (c : Dev nD) (t : Fin cfg1.N) (d) : (dat V c).before 5 t d = iblk V c 5 t :=
  before1_5_of V (dat V c) (A_eq V c 5) (after1_5 V c) t d

/-- The staging buffer of input window 6 holds that window's block when the body runs. -/
theorem before1_6 (c : Dev nD) (t : Fin cfg1.N) (d) : (dat V c).before 6 t d = iblk V c 6 t :=
  before1_6_of V (dat V c) (A_eq V c 6) (after1_6 V c) t d

/-- The staging buffer of input window 7 holds that window's block when the body runs. -/
theorem before1_7 (c : Dev nD) (t : Fin cfg1.N) (d) : (dat V c).before 7 t d = iblk V c 7 t :=
  before1_7_of V (dat V c) (A_eq V c 7) (after1_7 V c) t d

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d)))

/-- What the body returns at point `t`. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t))

set_option maxHeartbeats 6400000 in
/-- The body's triple at every point: the case is selected by the point's position, and that case's run applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl,
    after1_0, after1_1, after1_2, after1_3, after1_4, after1_5, after1_6, after1_7, after1_8]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases hz : t.val = 0
    · rw [PhiS_castSucc V c t, PhiS_zero V c _ _ hz, PhiA1_eq]
      rw [outsAt1_A V c t h0]
      unfold out1_A_8 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk V c 0 t) (iblk V c 1 t) (iblk V c 2 t) (iblk V c 3 t) (iblk V c 4 t) (iblk V c 5 t) (iblk V c 6 t) (iblk V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
    · rw [PhiS_castSucc V c t, PhiS_pos V c _ _ hz]
      rw [outsAt1_A V c t h0]
      unfold out1_A_8 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk V c 0 t) (iblk V c 1 t) (iblk V c 2 t) (iblk V c 3 t) (iblk V c 4 t) (iblk V c 5 t) (iblk V c 6 t) (iblk V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS_castSucc V c t, PhiS_pos V c _ _ hz]
      rw [outsAt1_B V c t h0]
      unfold out1_B_8 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (iblk V c 0 t) (iblk V c 1 t) (iblk V c 2 t) (iblk V c 3 t) (iblk V c 4 t) (iblk V c 5 t) (iblk V c 6 t) (iblk V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _)

/-- The body called at a point is the kernel function on that point's staging buffers. -/
theorem defs₀_row (t : Fin cfg1.N) :
    defs₀ (F := F) .tc cfg1.body (cfg1.bodyArgs t (cfg1.slots t)) = bodyAt1 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region gives the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the region's scratch back. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨HS0, Hg⟩
  isplitl [HS0]
  · iexists _; iexact HS0
  iexact Hg

/-- After the last point the invariant gives the region's scratch back. -/
theorem hout (c : Dev nD) : (dat V c).Φ (Fin.last cfg1.N) ⊢ Pipeline.ΦA spec1 c :=
  Phi_out V c _ (by rw [Fin.val_last]; have : cfg1.N = 64 := N_1; omega)

end Cert.KernelIdeal.Ssd

end
-- ==== Proof.KernelIdeal.Whole.lean ====
/-
  The run of the whole program: the two kernel calls' records, the contents of the buffers between
  the program's items, and the theorem that every execution ends with the result buffer at the last of these
  contents, the arguments unchanged and every counter at zero.
-/
module

public import proofs.«01_k».proof.Proof.KernelIdeal.Proj.Region
public import proofs.«01_k».proof.Proof.KernelIdeal.Ssd.Region
public import proofs.«01_k».proof.Proof.Gen.KernelIdeal.Regions
public import Idealize.ShloMosaic.Lib.Pipeline.RegionArraysS
public import Idealize.ShloMosaic.Lib.Pipeline.Regions
public import Idealize.ShloMosaic.Adequacy
public import Idealize.ShloMosaic.Init

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the unscoped buffers hold after the projection call. -/
def W4 (c : Dev nD) : Valuation τ sig (Elt F) :=
  Pipeline.afterRegion (Proj.dat (fun c b => V3 m c (Proc.devRef .tc b)) c) (V3 m c)

/-- What the unscoped buffers hold after the scan call. -/
def W5 (c : Dev nD) : Valuation τ sig (Elt F) :=
  Pipeline.afterRegion (Ssd.dat (fun c b => W4 m c (Proc.devRef .tc b)) c) (W4 m c)

/-- What the unscoped buffers hold at the end. -/
def W6 (c : Dev nD) : Valuation τ sig (Elt F) := StableHlo.after hostOps2 (W5 m c)

/-- The proof data of the two calls. -/
def pdats : (p : Fin 2) → (c : Dev nD) → Dat τ (Elt F) Unit ℕ (UR sig nD τ) ℕ (cfgs p) c
  | 0 => fun c => Proj.dat (fun c b => V3 m c (Proc.devRef .tc b)) c
  | 1 => fun c => Ssd.dat (fun c b => W4 m c (Proc.devRef .tc b)) c

/-- Every counter of a TensorCore may be waited on. -/
def L : GSem nD τ sig → Finset Unit := fun g => if g.1.2 = .tc then {()} else ∅

/-- All waits are at one level. -/
def lv : GSem nD τ sig → Unit → ℕ := fun _ _ => 0

/-- Nothing is owed by either call, so the staging counters are below everything owed. -/
theorem cut (p : Fin 2) : Pipeline.LevelCut (pcfgs (F := F)) adm () L lv p (fun _ => 0) (fun _ => 0) where
  hι c w s := by simp [L]
  hιb c w s := by simp [lv]
  hD c g i h := absurd h (Nat.lt_irrefl 0)

/-- The random generator's register at some state. -/
abbrev Reg (c : Dev nD) : sProp 𝕄 := iprop(∃ r, prngReg c r)

/-- What rides along between the items beside the buffers: nothing owed, and the generator's register. -/
abbrev Rest (c : Dev nD) : sProp 𝕄 := iprop((∃ Wd, owes (c : Thread nD τ) (0 : CellTallies nD τ sig Unit) Wd) ∗ Reg c ∗ BI.emp)

/-- The projection call's record. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) Reg Reg
    launch0.toP rfl (fun c => (Proj.body_obligation _ c).loose) (fun _ _ => rfl) (fun _ => rfl)
    (fun c w => (pdats m 0 c).share_full (fun _ => rfl) w)
    (fun c => Proj.hin _ c) (fun c => Proj.hout _ c) (fun _ => 0) (cut 0) (fun _ => BI.emp) (V3 m) (fun c w => rfl)

/-- The scan call's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) Reg Reg
    launch1.toP rfl (fun c => (Ssd.body_obligation _ c).loose) (fun _ _ => rfl) (fun _ => rfl)
    (fun c w => (pdats m 1 c).share_full (fun _ => rfl) w)
    (fun c => Ssd.hin _ c) (fun c => Ssd.hout _ c) (fun _ => 0) (cut 1) (fun _ => BI.emp) (W4 m) (fun c w => rfl)

/-- The last host stretch, from what the scan call leaves. -/
def last : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) Rest

/-- The program's items. -/
def items : List (Seg (pcfgs (F := F)) adm (pdats m) () defs₀ Variants.none L lv) :=
  [.host (seg0 m Variants.none L lv fun _ => Rest), .host (seg1 m Variants.none L lv fun _ => Rest), .host (seg2 m Variants.none L lv fun _ => Rest),
    .region (R0 m), .region (R1 m), .host (last m)]

/-- A buffer that no window of the projection call writes back holds what it held before that call. -/
theorem W4_of (c : Dev nD) (r : Ref sig .tc) (h : ∀ w, Pipeline.arrRef spec0 w = r → (cfg0.win w).isOut = false) :
    W4 m c (Proc.devRef .tc r) = V3 m c (Proc.devRef .tc r) :=
  Pipeline.afterRegion_keeps _ _ winFacts0.arr_inj (fun _ => rfl) r h

/-- A buffer that no window of the scan call writes back holds what it held before that call. -/
theorem W5_of (c : Dev nD) (r : Ref sig .tc) (h : ∀ w, Pipeline.arrRef spec1 w = r → (cfg1.win w).isOut = false) :
    W5 m c (Proc.devRef .tc r) = W4 m c (Proc.devRef .tc r) :=
  Pipeline.afterRegion_keeps _ _ winFacts1.arr_inj (fun _ => rfl) r h

/-- A buffer that no item writes ends as launched. -/
theorem W6_of (c : Dev nD) (r : Ref sig .tc) (h5 : r ∉ hostOps2_W) (h4 : ∀ w, Pipeline.arrRef spec1 w = r → (cfg1.win w).isOut = false)
    (h3 : ∀ w, Pipeline.arrRef spec0 w = r → (cfg0.win w).isOut = false) (h2 : r ∉ hostOps0_2_W) (h1 : r ∉ hostOps0_1_W) (h0 : r ∉ hostOps0_W) :
    W6 m c (Proc.devRef .tc r) = m ((c : Thread nD τ).loc r) :=
  (StableHlo.after_of_writes_sub hostOps2 _ hostOps2_writes h5).trans <| (W5_of m c r h4).trans <| (W4_of m c r h3).trans <|
    (V3_of m c r h2).trans <| (V2_of m c r h1).trans <| (V1_of m c r h0).trans rfl

/-- What a final state holds on core `c`: the result at the last contents, and each argument as launched. -/
def Ends (c : Dev nD) (s : MemSt nD τ sig (Elt F)) : Prop :=
  s.mem ((c.tc : Thread nD τ).loc main_v30) = W6 m c (Proc.devRef .tc main_v30)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

/-- A state whose unscoped buffers are at the last contents ends as `Ends` says. -/
theorem ends_of (c : Dev nD) (s : MemSt nD τ sig (Elt F))
    (h : ∀ b ∈ Pipeline.ucRefs τ sig, s.mem (((c : Thread nD τ)).1, b) = W6 m c b) : Ends m c s :=
  have at' (r : Ref sig .tc) (hr : (Proc.devRef .tc r : DevRef τ sig) ∈ Pipeline.ucRefs τ sig) := h (Proc.devRef .tc r) hr
  ⟨at' main_v30 (Finset.mem_filter.mpr ⟨StableHlo.devRef_mem_tcRefs main_v30, by decide⟩),
   (at' main_arg0 (Finset.mem_filter.mpr ⟨StableHlo.devRef_mem_tcRefs main_arg0, by decide⟩)).trans (W6_of m c main_arg0 (by decide) (by decide) (by decide) (by decide) (by decide) (by decide)),
   (at' main_arg1 (Finset.mem_filter.mpr ⟨StableHlo.devRef_mem_tcRefs main_arg1, by decide⟩)).trans (W6_of m c main_arg1 (by decide) (by decide) (by decide) (by decide) (by decide) (by decide)),
   (at' main_arg2 (Finset.mem_filter.mpr ⟨StableHlo.devRef_mem_tcRefs main_arg2, by decide⟩)).trans (W6_of m c main_arg2 (by decide) (by decide) (by decide) (by decide) (by decide) (by decide)),
   (at' main_arg3 (Finset.mem_filter.mpr ⟨StableHlo.devRef_mem_tcRefs main_arg3, by decide⟩)).trans (W6_of m c main_arg3 (by decide) (by decide) (by decide) (by decide) (by decide) (by decide)),
   (at' main_arg4 (Finset.mem_filter.mpr ⟨StableHlo.devRef_mem_tcRefs main_arg4, by decide⟩)).trans (W6_of m c main_arg4 (by decide) (by decide) (by decide) (by decide) (by decide) (by decide)),
   (at' main_arg5 (Finset.mem_filter.mpr ⟨StableHlo.devRef_mem_tcRefs main_arg5, by decide⟩)).trans (W6_of m c main_arg5 (by decide) (by decide) (by decide) (by decide) (by decide) (by decide))⟩

/-- The program is the run of its items. -/
theorem main_run (c : Dev nD) : main (F := F) c = Pipeline.Seg.run (items m) :=
  (main_chain c).trans (by rw [Seg.run_eq_chain]; rfl)

/-- The unscoped buffers at `W` beside what rides along. -/
abbrev Held (W : (c : Dev nD) → Valuation τ sig (Elt F)) (c : Dev nD) : sProp 𝕄 :=
  iprop(StableHlo.held (c : Thread nD τ) (Pipeline.ucRefs τ sig) (W c) ∗ Rest c)

/-- The arrays of the projection call are unscoped buffers. -/
theorem sub0 : Pipeline.arrRefs spec0 ⊆ Pipeline.ucRefs τ sig := Pipeline.arrRefs_sub_ucRefs spec0 winFacts0.arr_unscoped

/-- The arrays of the scan call are unscoped buffers. -/
theorem sub1 : Pipeline.arrRefs spec1 ⊆ Pipeline.ucRefs τ sig := Pipeline.arrRefs_sub_ucRefs spec1 winFacts1.arr_unscoped

/-- The projection call is entered from the buffers as the host stretches leave them. -/
theorem pre0 (c : Dev nD) : Held (V3 m) c ⊢ (R0 m).pre c := by
  unfold R0
  exact RegionSeg.ofHeldIn_pre (pcs := pcfgs (F := F)) (a := adm) (pdats := pdats m) (p := 0) (S := Pipeline.ucRefs τ sig) (D := fun _ => 0) (X := Reg) (Y := Reg) (R := fun _ => BI.emp) (W := V3 m) (b := fun _ => 0) sub0 c

/-- The projection call leaves the buffers at `W4`. -/
theorem post0 (c : Dev nD) : (R0 m).post c ⊢ Held (W4 m) c :=
  RegionSeg.ofHeldIn_post (pcs := pcfgs (F := F)) (a := adm) (pdats := pdats m) (p := 0) (S := Pipeline.ucRefs τ sig) sub0 c

/-- The scan call is entered from the buffers as the projection call leaves them. -/
theorem pre1 (c : Dev nD) : Held (W4 m) c ⊢ (R1 m).pre c := by
  unfold R1
  exact RegionSeg.ofHeldIn_pre (pcs := pcfgs (F := F)) (a := adm) (pdats := pdats m) (p := 1) (S := Pipeline.ucRefs τ sig) (D := fun _ => 0) (X := Reg) (Y := Reg) (R := fun _ => BI.emp) (W := W4 m) (b := fun _ => 0) sub1 c

/-- The scan call leaves the buffers at `W5`. -/
theorem post1 (c : Dev nD) : (R1 m).post c ⊢ Held (W5 m) c :=
  RegionSeg.ofHeldIn_post (pcs := pcfgs (F := F)) (a := adm) (pdats := pdats m) (p := 1) (S := Pipeline.ucRefs τ sig) sub1 c

set_option backward.isDefEq.respectTransparency.types false in
/-- Every execution terminates; at the end the result buffer holds the last contents, each argument is as launched, and every counter is zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_sems (pcfgs (F := F)) adm (pdats m) () cellOf_inj emb₁ defs₀ Variants.none L lv m ρ main (items m)
    (fun c Q => by rw [main_run m c])
    (by simp only [items, Pipeline.Seg.pipes_host, Pipeline.Seg.pipes_region, Pipeline.Seg.pipes_nil]; decide)
    (O₀ := 0) (hL := fun g h => if_neg h) (G := fun _ => iprop(emp))
    (u₀ := initOf (Pipeline.cells cfgs cellOf_inj) (Pipeline.launchToks cfgs cellOf_inj))
    (hu₀ := ?_)
    (T₀ := Held (V0 m)) (Tₙ := fun c => iprop(StableHlo.held (c : Thread nD τ) (Pipeline.ucRefs τ sig) (W6 m c)))
    (hch := ⟨fun _ => .rfl, fun _ => .rfl, fun _ => .rfl, pre0 m, fun c => (post0 m c).trans (pre1 m c), post1 m, fun c => ?_⟩)
    (hinit := ?_) (QY := Ends m) (hfin := fun c s' => ?_)
    (hQ := fun s h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W6 m c) ∗ Rest c) ⊢ _
    iintro ⟨Hh, HO, -⟩
    isplitl [Hh]; · iexact Hh
    iexact HO
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩; imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro; exact ends_of m c s'.mem h
    · iexact HSI

end Cert.KernelIdeal.Whole

end
-- ==== Proof.Value.Finite.lean ====
/-
  What the precondition says: every entry of every argument is a real number.
-/
module

public import proofs.«01_k».proof.Pre_finite
public import Idealize.ShloMosaic.Lib.ReduceAll
public import Idealize.ShloMosaic.Lib.Pointwise
public import Idealize.ShloMosaic.Lib.Affine

@[expose] public section

noncomputable section

open Idealize.ShloMosaic Idealize.SL.Sem

namespace Cert.Finite

open Cert.Pre_finite

/-- An extended real whose absolute value is below infinity is a real number. -/
theorem real_of_lt (x : EReal) (h : max x (-x) < ⊤) : x = ((x.toReal : ℝ) : EReal) := by
  refine (EReal.coe_toReal ?_ ?_).symm
  · rintro rfl
    simp at h
  · rintro rfl
    simp at h

/-- The pattern of the bound is infinity. -/
theorem inf_top : Ideal.ofBits .f32 0x7F800000#32 = ⊤ := by
  simp [Ideal.ofBits, Ideal.ieee]

/-- Where the comparison of an array's absolute values with infinity is 1, the entry is a real number. -/
theorem real_of_cmp {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : x i = ((EReal.toReal (x i) : ℝ) : EReal) := by
  refine real_of_lt _ ?_
  have h' : BitVec.ofBool (decide (max (x i : EReal) (-(x i : EReal)) < Ideal.ofBits .f32 0x7F800000#32)) = 1#1 := h
  rw [inf_top] at h'
  by_contra hn
  rw [decide_eq_false hn] at h'
  exact absurd h' (by decide)

/-- The shape relations the precondition's operations take. -/
theorem facts : Cert.Pre_finite.Facts where
  bcast_S_S1x2048x7168 := by decide
  reducesTo_S1x2048x7168_S_d0_1_2 := by decide
  h_S_ := by decide
  bcast_S_S1536x7168 := by decide
  reducesTo_S1536x7168_S_d0_1 := by decide
  bcast_S_S24576x1536 := by decide
  reducesTo_S24576x1536_S_d0_1 := by decide
  bcast_S_S576x7168 := by decide
  reducesTo_S576x7168_S_d0_1 := by decide
  bcast_S_S32768x512 := by decide
  reducesTo_S32768x512_S_d0_1 := by decide
  bcast_S_S128 := by decide
  reducesTo_S128_S_d0 := by decide

/-- Under the precondition every entry of every argument is a real number. -/
theorem reals [F : Cert.Pre_finite.Facts] (x0 : FVec Ideal S1x2048x7168 .f32) (x1 : FVec Ideal S1536x7168 .f32) (x2 : FVec Ideal S24576x1536 .f32)
    (x3 : FVec Ideal S576x7168 .f32) (x4 : FVec Ideal S32768x512 .f32) (x5 : FVec Ideal S128 .f32) (h : fn (F := Ideal) x0 x1 x2 x3 x4 x5 = fun _ => 1#1) :
    (∀ i, x0 i = ((EReal.toReal (x0 i) : ℝ) : EReal)) ∧ (∀ i, x1 i = ((EReal.toReal (x1 i) : ℝ) : EReal)) ∧ (∀ i, x2 i = ((EReal.toReal (x2 i) : ℝ) : EReal))
      ∧ (∀ i, x3 i = ((EReal.toReal (x3 i) : ℝ) : EReal)) ∧ (∀ i, x4 i = ((EReal.toReal (x4 i) : ℝ) : EReal)) ∧ (∀ i, x5 i = ((EReal.toReal (x5 i) : ℝ) : EReal)) := by
  have hj := congrFun h ix0
  have : Subsingleton S_.Idx := ⟨fun a b => funext fun i => i.elim0⟩
  dsimp only [fn, fn_part1] at hj
  obtain ⟨hj, h5⟩ := IntOp.andi_eq_one.mp hj
  obtain ⟨hj, h4⟩ := IntOp.andi_eq_one.mp hj
  obtain ⟨hj, h3⟩ := IntOp.andi_eq_one.mp hj
  obtain ⟨hj, h2⟩ := IntOp.andi_eq_one.mp hj
  obtain ⟨h0, h1⟩ := IntOp.andi_eq_one.mp hj
  exact ⟨fun i => real_of_cmp x0 _ i (Host.reduce_andi_all _ _ _ _ _ h0 i), fun i => real_of_cmp x1 _ i (Host.reduce_andi_all _ _ _ _ _ h1 i),
    fun i => real_of_cmp x2 _ i (Host.reduce_andi_all _ _ _ _ _ h2 i), fun i => real_of_cmp x3 _ i (Host.reduce_andi_all _ _ _ _ _ h3 i),
    fun i => real_of_cmp x4 _ i (Host.reduce_andi_all _ _ _ _ _ h4 i), fun i => real_of_cmp x5 _ i (Host.reduce_andi_all _ _ _ _ _ h5 i)⟩

end Cert.Finite

end
-- ==== Proof.Frames.lean ====
/-
  The frames: each program runs to the end with its arguments unchanged and every counter at zero.
-/
module

public import proofs.«01_k».proof.Defs
public import proofs.«01_k».proof.Proof.Kernel.Whole
public import proofs.«01_k».proof.Proof.KernelIdeal.Whole
public import proofs.«01_k».proof.Proof.Gen.ReferenceIdeal.Run
public import proofs.«01_k».proof.Proof.Value.Finite

@[expose] public section

noncomputable section

namespace Cert.Proof

open Idealize.ShloMosaic Idealize.SL.Sem

/-- The kernel's program runs to the end, its arguments unchanged and every counter at zero. -/
theorem frame_kernel : quiescent_Kernel := fun m g _ =>
  (θ_run _ _ _).mono (fun _ h => ⟨fun c => (h.1 c).2, h.2⟩) (Cert.Kernel.Whole.run (F := Bits) m g)

/-- The kernel's idealized program runs to the end, its arguments unchanged and every counter at zero. -/
theorem frame_ideal : quiescent_KernelIdeal := fun m g _ =>
  (θ_run _ _ _).mono (fun _ h => ⟨fun c => (h.1 c).2, h.2⟩) (Cert.KernelIdeal.Whole.run (F := Ideal) m g)

/-- The reference's idealized program runs to the end, its arguments unchanged and every counter at zero. -/
theorem frame_reference : quiescent_ReferenceIdeal := fun m g _ =>
  (θ_run _ _ _).mono (fun r h => ⟨fun c => (h c).2, sem_eq_zero_of_no_sems (by decide) r.2⟩)
    (Cert.ReferenceIdeal.Value.run (F := Ideal) m g)

/-- The same of the kernel's idealized program from finite arguments. -/
theorem frame_ideal_finite : quiescent_KernelIdeal_pre_finite (hPre_finite := Cert.Finite.facts) := fun m g _ => frame_ideal m g trivial

/-- The same of the reference's idealized program from finite arguments. -/
theorem frame_reference_finite : quiescent_ReferenceIdeal_pre_finite (hPre_finite := Cert.Finite.facts) := fun m g _ => frame_reference m g trivial

end Cert.Proof

end
-- ==== Proof.KernelIdeal.Host.lean ====
/-
  What the host operations before the first kernel call leave in the arrays that the two calls read, at an index, in terms of the arguments.
-/
module

public import proofs.«01_k».proof.Proof.KernelIdeal.Whole
public import Idealize.ShloMosaic.Lib.Pipeline.ValueKit
public import Idealize.ShloMosaic.Lib.Pointwise

@[expose] public section

set_option maxRecDepth 16384

noncomputable section

open Idealize.ShloMosaic Idealize.ShloMosaic.WordCmp Idealize.ShloMosaic.TcCoe Idealize.SL.Sem

namespace Cert.KernelIdeal.Host

open Cert.KernelIdeal Cert.KernelIdeal.Gen

variable (m : (ℓ : Loc nD τ sig) → Buf (Elt Ideal) ℓ) (c : Dev nD)

/-- The input, its unit axis dropped. -/
theorem v0 (i : Fin 2048) (k : Fin 7168) : V3 m c (Proc.devRef .tc main_v0) (ix2 i k) = m ((c : Thread nD τ).loc main_arg0) (ix3 0 i k) := by
  rw [V3_of m c main_v0 (by decide), V2_of m c main_v0 (by decide)]
  unfold_abbrev_sides
  after_results
  pointwise []

/-- The decrement rates. -/
theorem v3 (b : Fin 8) (h : Fin 16) : V3 m c (Proc.devRef .tc main_v3) (ix3 b 0 h) = -(Ideal.exp (m ((c : Thread nD τ).loc main_arg5) (ix1 ⟨b.val * 16 + h.val, by omega⟩))) := by
  rw [V3_of m c main_v3 (by decide), V2_of m c main_v3 (by decide)]
  unfold_abbrev_sides
  after_results
  pointwise []
  rfl

/-- The weights of C. -/
theorem v7 (k : Fin 16384) (r : Fin 1536) : V3 m c (Proc.devRef .tc main_v7) (ix2 k r) = m ((c : Thread nD τ).loc main_arg2) (ix2 ⟨k.val / 128 * 192 + k.val % 128, by omega⟩ r) := by
  rw [V3_of m c main_v7 (by decide), V2_of m c main_v7 (by decide)]
  unfold_abbrev_sides
  after_results
  pointwise []

/-- The weights of the step sizes. -/
theorem v10 (k : Fin 8192) (r : Fin 1536) : V3 m c (Proc.devRef .tc main_v10) (ix2 k r) = m ((c : Thread nD τ).loc main_arg2) (ix2 ⟨k.val / 64 * 192 + (128 + k.val % 64), by omega⟩ r) := by
  rw [V3_of m c main_v10 (by decide), V2_of m c main_v10 (by decide)]
  unfold_abbrev_sides
  after_results
  pointwise []

/-- The weights of B. -/
theorem v14 (k : Fin 16384) (r : Fin 512) : V3 m c (Proc.devRef .tc main_v14) (ix2 k r) = m ((c : Thread nD τ).loc main_arg4) (ix2 ⟨k.val / 128 * 256 + k.val % 128, by omega⟩ r) := by
  rw [V3_of m c main_v14 (by decide), V2_of m c main_v14 (by decide)]
  unfold_abbrev_sides
  after_results
  pointwise []

/-- The weights of X. -/
theorem v17 (k : Fin 16384) (r : Fin 512) : V3 m c (Proc.devRef .tc main_v17) (ix2 k r) = m ((c : Thread nD τ).loc main_arg4) (ix2 ⟨k.val / 128 * 256 + (128 + k.val % 128), by omega⟩ r) := by
  rw [V3_of m c main_v17 (by decide), V2_of m c main_v17 (by decide)]
  unfold_abbrev_sides
  after_results
  pointwise []

/-- The first low-rank weights. -/
theorem v27 (i : Fin 1536) (k : Fin 7168) : V3 m c (Proc.devRef .tc main_v27) (ix2 i k) = m ((c : Thread nD τ).loc main_arg1) (ix2 i k) := by
  unfold_abbrev_sides
  after_results
  pointwise []

/-- The second low-rank weights. -/
theorem v28 (i : Fin 576) (k : Fin 7168) : V3 m c (Proc.devRef .tc main_v28) (ix2 i k) = m ((c : Thread nD τ).loc main_arg3) (ix2 i k) := by
  unfold_abbrev_sides
  after_results
  pointwise []

/-- The floor division by 128, as the host writes it. -/
def fdiv (x : BitVec 32) : BitVec 32 :=
  Scalar.select
    (IntOp.andi
      (IntOp.cmpi CmpIPredicate.ne
        (if x = 0 then 0 else if x.msb = true then -1 else 1 : BitVec 32)
        (if 128#32 = 0 then 0 else if (128#32).msb = true then -1 else 1 : BitVec 32))
      (IntOp.cmpi CmpIPredicate.ne (IntOp.remsi ArithUnit.host x 128#32) 0#32))
    (IntOp.subi (IntOp.divsi ArithUnit.host x 128#32) 1#32)
    (IntOp.divsi ArithUnit.host x 128#32)

/-- It is the quotient of the lane number. -/
theorem quot : ∀ k : Fin 2048, fdiv (BitVec.ofNat 32 k.val) = BitVec.ofNat 32 (k.val / 128) := by decide +kernel

/-- The head-selection matrix. -/
theorem v26 (h : Fin 16) (k : Fin 2048) : V3 m c (Proc.devRef .tc main_v26) (ix2 h k) = (((if k.val / 128 = h.val then 1 else 0) : ℝ) : EReal) := by
  unfold_abbrev_sides
  after_results
  simp only [StableHlo.TRef.toBuf, StableHlo.TRef.ofBuf, cast_eq, id]
  pointwise []
  refine (congrArg (fun w => FloatOps.uitofp (F := Ideal) FTy.bf16 (IntOp.cmpi CmpIPredicate.eq w (BitVec.ofNat 32 h.val))) (quot k)).trans ?_
  rw [cmpi_eq_ofNat (by omega) (by omega)]
  by_cases hk : k.val / 128 = h.val
  · simp only [hk, if_true]
    show (((1 : ℕ) : ℝ) : EReal) = _
    simp
  · simp only [hk, if_false]
    show (((0 : ℕ) : ℝ) : EReal) = _
    simp

end Cert.KernelIdeal.Host

end
-- ==== Proof.KernelIdeal.Proj.Value.lean ====
/-
  What the projection (the first kernel call) computes: each of its two output arrays is the whole contraction of the
  input with that output's weights, accumulated over the four blocks of the contracted axis.
-/
module

public import proofs.«01_k».proof.Proof.KernelIdeal.Proj.Region
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Proj

open Cert.KernelIdeal Cert.KernelIdeal.Gen

variable (V : (c : Dev nD) → (b : Ref sig .tc) → Buf (Elt Ideal) ((c : Thread nD τ).loc b))

/-- The block index of every window at every grid point. -/
theorem idx : ∀ t : Fin cfg0.N, win0_0.index t = ![t.val / 4, t.val % 4] ∧ win0_1.index t = ![0, t.val % 4] ∧ win0_2.index t = ![0, t.val % 4] ∧ win0_3.index t = ![t.val / 4, 0] ∧ win0_4.index t = ![t.val / 4, 0] :=
  (by decide +kernel : ∀ t : Fin grid0.N, _)

/-- The contraction of one input block with one block of the first weights, at an index. -/
def termA (X : FVec Ideal S512x1792 .f32) (W : FVec Ideal S1536x1792 .bf16) (i : Fin 512) (j : Fin 1536) : EReal := ∑ m : Fin 1792, X (ix2 i m) * W (ix2 j m)

/-- The contraction of one input block with one block of the second weights, at an index. -/
def termB (X : FVec Ideal S512x1792 .f32) (W : FVec Ideal S576x1792 .bf16) (i : Fin 512) (j : Fin 576) : EReal := ∑ m : Fin 1792, X (ix2 i m) * W (ix2 j m)

/-- The contraction of the whole input with the first weights, at an index. -/
def fullA (X : FVec Ideal S2048x7168 .f32) (W : FVec Ideal S1536x7168 .bf16) (i : Fin 2048) (j : Fin 1536) : EReal := ∑ k : Fin 7168, X (ix2 i k) * W (ix2 j k)

/-- The contraction of the whole input with the second weights, at an index. -/
def fullB (X : FVec Ideal S2048x7168 .f32) (W : FVec Ideal S576x7168 .bf16) (i : Fin 2048) (j : Fin 576) : EReal := ∑ k : Fin 7168, X (ix2 i k) * W (ix2 j k)

/-- A first point leaves that point's term in the accumulator. -/
theorem reset_A (c : Dev nD) (t : Fin cfg0.N) (h : t.val % 4 = 0) (y : S512x1536.Idx) :
    (outsAt0 V c t.val t.isLt).2.2.1 y = (0 : EReal) + termA (iblk V c 0 t) (iblk V c 1 t) (y 0) (y 1) := by
  rw [outsAt0_A V c t h (by omega) (by omega)]
  frame_out
  open_payloads
  pointwise [termA]

/-- A later point adds its term. -/
theorem step_A (c : Dev nD) (t : Fin cfg0.N) (h : ¬ t.val % 4 = 0) (y : S512x1536.Idx) :
    (outsAt0 V c t.val t.isLt).2.2.1 y = ((outsAt0 V c (t.val - 1) (Nat.lt_of_le_of_lt (Nat.sub_le _ _) t.isLt)).2.2.1 y : EReal) + termA (iblk V c 0 t) (iblk V c 1 t) (y 0) (y 1) := by
  have hr (X : Vec Ideal S512x1536 .f32) : View.read (Elt Ideal) (View.whole cc0_scratch0) ((Memref.isWhole_whole cc0_scratch0).unread X) y = X y :=
    congrFun ((Memref.isWhole_whole cc0_scratch0).read_unread X) y
  by_cases h3 : t.val % 4 = 3
  · rw [outsAt0_C V c t h (by omega) h3]
    frame_out
    open_payloads
    pointwise [termA]
    rw [hr]
  · rw [outsAt0_B V c t h (by omega) h3]
    frame_out
    open_payloads
    pointwise [termA]
    rw [hr]

/-- A last point stores the accumulator. -/
theorem last_A (c : Dev nD) (t : Fin cfg0.N) (h3 : t.val % 4 = 3) (y : S512x1536.Idx) :
    ((outsAt0 V c t.val t.isLt).1 y : EReal) = (outsAt0 V c t.val t.isLt).2.2.1 y := by
  rw [outsAt0_C V c t (by omega) (by omega) h3]
  frame_out
  open_payloads
  pointwise []

/-- Output 3: the whole contraction with these weights. -/
theorem arr_A (c : Dev nD) (y : S2048x1536.Idx) : (dat V c).arrAt 3 cfg0.N y = fullA (V c main_v0) (V c main_v27) (y 0) (y 1) := by
  have h := (dat V c).arrAt_eq_of_covers 3 (fun y => fullA (V c main_v0) (V c main_v27) (y 0) (y 1)) (by decide +kernel) fun t hf y => ?_
  · exact congrFun h y
  · have hl := (flush0_3 t).mp hf
    blk_simp
    rw [after0_3]
    refine (last_A V c t hl y).trans ?_
    rw [Pipeline.eq_sum_fin_of_reset_step_apply_of_flush (M := EReal) (fun n h => (outsAt0 V c n h).2.2.1) 4 (fun _ => (0 : EReal)) (fun p j => termA (iblk V c 0 p) (iblk V c 1 p) (j 0) (j 1))
      (fun t h y => reset_A V c t h y) (fun t h y => step_A V c t h y) t hl y, zero_add]
    unfold termA fullA
    refine Fin.sum_mul_add_congr fun s k hl' => ?_
    blk_point [iblk, V, idx t, idx ⟨_, Pipeline.run_point_lt_of_flush t hl s⟩]
    all_goals blk_ext [idx t, idx ⟨_, Pipeline.run_point_lt_of_flush t hl s⟩]

/-- A first point leaves that point's term in the accumulator. -/
theorem reset_B (c : Dev nD) (t : Fin cfg0.N) (h : t.val % 4 = 0) (y : S512x576.Idx) :
    (outsAt0 V c t.val t.isLt).2.2.2 y = (0 : EReal) + termB (iblk V c 0 t) (iblk V c 2 t) (y 0) (y 1) := by
  rw [outsAt0_A V c t h (by omega) (by omega)]
  frame_out
  open_payloads
  pointwise [termB]

/-- A later point adds its term. -/
theorem step_B (c : Dev nD) (t : Fin cfg0.N) (h : ¬ t.val % 4 = 0) (y : S512x576.Idx) :
    (outsAt0 V c t.val t.isLt).2.2.2 y = ((outsAt0 V c (t.val - 1) (Nat.lt_of_le_of_lt (Nat.sub_le _ _) t.isLt)).2.2.2 y : EReal) + termB (iblk V c 0 t) (iblk V c 2 t) (y 0) (y 1) := by
  have hr (X : Vec Ideal S512x576 .f32) : View.read (Elt Ideal) (View.whole cc0_scratch1) ((Memref.isWhole_whole cc0_scratch1).unread X) y = X y :=
    congrFun ((Memref.isWhole_whole cc0_scratch1).read_unread X) y
  by_cases h3 : t.val % 4 = 3
  · rw [outsAt0_C V c t h (by omega) h3]
    frame_out
    open_payloads
    pointwise [termB]
    rw [hr]
  · rw [outsAt0_B V c t h (by omega) h3]
    frame_out
    open_payloads
    pointwise [termB]
    rw [hr]

/-- A last point stores the accumulator. -/
theorem last_B (c : Dev nD) (t : Fin cfg0.N) (h3 : t.val % 4 = 3) (y : S512x576.Idx) :
    ((outsAt0 V c t.val t.isLt).2.1 y : EReal) = (outsAt0 V c t.val t.isLt).2.2.2 y := by
  rw [outsAt0_C V c t (by omega) (by omega) h3]
  frame_out

/-- Output 4: the whole contraction with these weights. -/
theorem arr_B (c : Dev nD) (y : S2048x576.Idx) : (dat V c).arrAt 4 cfg0.N y = fullB (V c main_v0) (V c main_v28) (y 0) (y 1) := by
  have h := (dat V c).arrAt_eq_of_covers 4 (fun y => fullB (V c main_v0) (V c main_v28) (y 0) (y 1)) (by decide +kernel) fun t hf y => ?_
  · exact congrFun h y
  · have hl := (flush0_4 t).mp hf
    blk_simp
    rw [after0_4]
    refine (last_B V c t hl y).trans ?_
    rw [Pipeline.eq_sum_fin_of_reset_step_apply_of_flush (M := EReal) (fun n h => (outsAt0 V c n h).2.2.2) 4 (fun _ => (0 : EReal)) (fun p j => termB (iblk V c 0 p) (iblk V c 2 p) (j 0) (j 1))
      (fun t h y => reset_B V c t h y) (fun t h y => step_B V c t h y) t hl y, zero_add]
    unfold termB fullB
    refine Fin.sum_mul_add_congr fun s k hl' => ?_
    blk_point [iblk, V, idx t, idx ⟨_, Pipeline.run_point_lt_of_flush t hl s⟩]
    all_goals blk_ext [idx t, idx ⟨_, Pipeline.run_point_lt_of_flush t hl s⟩]

end Cert.KernelIdeal.Proj

end
-- ==== Proof.KernelIdeal.Ssd.Value.lean ====
/-
  What the body of the scan (the second kernel call) leaves at a grid point, read at an index: one head of the results and one
  head of the carried state, from the vectors the body computes once for all heads.
-/
module

public import proofs.«01_k».proof.Proof.KernelIdeal.Ssd.Region
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen

/-- The first 512 columns of the low-rank block: the part that feeds B and X. -/
def bxL (x1 : Vec Ideal S256x576 .f32) : Vec Ideal S256x512 .f32 :=
  View.ld x1 (Rect.unit ![0, 0] ![256, 512] inb_S256x576_S256x512_0_0)
/-- The last 64 columns of the low-rank block: the part that feeds the step sizes. -/
def bxR (x1 : Vec Ideal S256x576 .f32) : Vec Ideal S256x64 .f32 :=
  View.ld x1 (Rect.unit ![0, 512] ![256, 64] inb_S256x576_S256x64_0_512)
/-- The projections C of a block of rows, all heads side by side. -/
abbrev vC (x0 : Vec Ideal S256x1536 .bf16) (x2 : Vec Ideal S2048x1536 .bf16) : FVec Ideal S256x2048 .bf16 := k1_pay7 x0 x2
/-- The projections B of a block of rows, all heads side by side. -/
abbrev vB (x1 : Vec Ideal S256x576 .f32) (x4 : Vec Ideal S2048x512 .bf16) : FVec Ideal S256x2048 .bf16 := k1_pay9 (bxL x1) x4
/-- The left factors of the step-size contraction, all heads side by side. -/
abbrev vD (x0 : Vec Ideal S256x1536 .bf16) (x3 : Vec Ideal S1024x1536 .bf16) : FVec Ideal S256x1024 .f32 := k1_pay8 x0 x3
/-- The mask of the cumulative sum. -/
abbrev vM : FVec Ideal S256x256 .bf16 := k1_pay16 (F := Ideal) (k1_pay15 (F := Ideal) (iota .tc S256x256 32 [0] iota_S256x256_d0_w32) (iota .tc S256x256 32 [1] iota_S256x256_d1_w32) k1_pay11 256#32 k1_pay12 k1_pay13 k1_pay14)
/-- The step sizes of a block of rows, one column per head. -/
abbrev vDt (T : FVec Ideal S256x64 .f32) (D : FVec Ideal S256x1024 .f32) : FVec Ideal S256x16 .f32 :=
  k1_pay30 T D (k1_pay18 T D) (k1_pay19 T D) (k1_pay20 T D) (k1_pay21 T D) (k1_pay22 T D) (k1_pay23 T D) (k1_pay24 T D) (k1_pay25 T D) (k1_pay26 T D) (k1_pay27 T D) (k1_pay28 T D) (k1_pay29 D)
/-- The cumulative sums of step size times rate within a block of rows, one column per head. -/
abbrev vAcs (T : FVec Ideal S256x64 .f32) (D : FVec Ideal S256x1024 .f32) (x6 : Vec Ideal S1x1x16 .f32) : FVec Ideal S256x16 .f32 :=
  k1_pay31 T D vM (k1_pay18 T D) (k1_pay19 T D) (k1_pay20 T D) (k1_pay21 T D) (k1_pay22 T D) (k1_pay23 T D) (k1_pay24 T D) (k1_pay25 T D) (k1_pay26 T D) (k1_pay27 T D) (k1_pay28 T D) (k1_pay29 D) x6
/-- The step sizes, each repeated over the 128 columns of its head. -/
abbrev vDx (T : FVec Ideal S256x64 .f32) (D : FVec Ideal S256x1024 .f32) (x7 : Vec Ideal S16x2048 .bf16) : FVec Ideal S256x2048 .bf16 :=
  k1_pay38 T D (k1_pay18 T D) (k1_pay19 T D) (k1_pay20 T D) (k1_pay21 T D) (k1_pay22 T D) (k1_pay23 T D) (k1_pay24 T D) (k1_pay25 T D) (k1_pay26 T D) (k1_pay27 T D) (k1_pay28 T D) (k1_pay29 D) x7
/-- The decays from every row to the end of its block, one column per head. -/
abbrev vDs (T : FVec Ideal S256x64 .f32) (D : FVec Ideal S256x1024 .f32) (x6 : Vec Ideal S1x1x16 .f32) : FVec Ideal S256x16 .f32 :=
  k1_pay35 T D vM (k1_pay18 T D) (k1_pay19 T D) (k1_pay20 T D) (k1_pay21 T D) (k1_pay22 T D) (k1_pay23 T D) (k1_pay24 T D) (k1_pay25 T D) (k1_pay26 T D) (k1_pay27 T D) (k1_pay28 T D) (k1_pay29 D) x6
/-- X times the step sizes, all heads side by side. -/
abbrev vXd (x1 : Vec Ideal S256x576 .f32) (x5 : Vec Ideal S2048x512 .bf16) (dx : FVec Ideal S256x2048 .bf16) : FVec Ideal S256x2048 .bf16 :=
  k1_pay39 (k1_pay10 (bxL x1) x5) dx
/-- X times the step sizes times the decays to the end of the block, all heads side by side. -/
abbrev vXs (x1 : Vec Ideal S256x576 .f32) (x5 : Vec Ideal S2048x512 .bf16) (ds : FVec Ideal S256x16 .f32) (x7 : Vec Ideal S16x2048 .bf16) (dx : FVec Ideal S256x2048 .bf16) : FVec Ideal S256x2048 .bf16 :=
  k1_pay40 (k1_pay10 (bxL x1) x5) ds (k1_pay37 x7) dx
/-- One head of a block's results: the rows of the block up to this one, and the carried state. -/
def headOut (M : IVec S256x256 1) (C B Xd : FVec Ideal S256x2048 .bf16) (A : FVec Ideal S256x16 .f32) (st : FVec Ideal S16x128x128 .f32) (r : Fin 256) (h : Fin 16) (p : Fin 128) : EReal :=
  (∑ s : Fin 256, (∑ n : Fin 128, C (ix2 r ⟨h.val * 128 + n.val, by omega⟩) * B (ix2 s ⟨h.val * 128 + n.val, by omega⟩)) *
      Scalar.select (M (ix2 r s)) (Ideal.exp (min (A (ix2 r h) - A (ix2 s h)) 0)) (0 : EReal) * Xd (ix2 s ⟨h.val * 128 + p.val, by omega⟩))
    + (∑ n : Fin 128, C (ix2 r ⟨h.val * 128 + n.val, by omega⟩) * st (ix3 h n p)) * Ideal.exp (A (ix2 r h))
/-- One head of the state after a block: the carried state decayed, and the block's own rows. -/
def headState (B Xs : FVec Ideal S256x2048 .bf16) (A : FVec Ideal S256x16 .f32) (st : FVec Ideal S16x128x128 .f32) (h : Fin 16) (n p : Fin 128) : EReal :=
  st (ix3 h n p) * Ideal.exp (A (ix2 255 h)) + ∑ r : Fin 256, B (ix2 r ⟨h.val * 128 + n.val, by omega⟩) * Xs (ix2 r ⟨h.val * 128 + p.val, by omega⟩)

/-- Later stores that cover an index decide it: what was stored before them there is not seen. -/
theorem canon_append_covered {s : Shape} {e : EltTy} (L' : List (View.Piece (Elt Ideal) s e)) :
    ∀ (L : List (View.Piece (Elt Ideal) s e)) (y : s.Idx), (∃ p ∈ L, y ∈ p.1.set) → View.canon (L ++ L') y = View.canon L y
  | [], _, h => by obtain ⟨p, hp, _⟩ := h; exact absurd hp List.not_mem_nil
  | ⟨r, w⟩ :: L, y, h => by
    by_cases hy : y ∈ r.set
    · obtain ⟨x, rfl⟩ := r.exists_idx_of_mem hy
      exact (View.canon_cons_emb r w (L ++ L') x).trans (View.canon_cons_emb r w L x).symm
    · refine (View.canon_cons_of_not_mem ⟨r, w⟩ (L ++ L') hy).trans (Eq.trans ?_ (View.canon_cons_of_not_mem ⟨r, w⟩ L hy).symm)
      refine canon_append_covered L' L y ?_
      obtain ⟨p, hp, hyp⟩ := h
      rcases List.mem_cons.mp hp with rfl | hp
      · exact absurd hyp hy
      · exact ⟨p, hp, hyp⟩

variable (V : (c : Dev nD) → (b : Ref sig .tc) → Buf (Elt Ideal) ((c : Thread nD τ).loc b))

set_option maxHeartbeats 1600000 in
/-- The block of results after a first point of a run, at an index: the carried state is the zero fill. -/
theorem out_A (c : Dev nD) (t : Fin cfg1.N) (h0 : t.val % 8 = 0) (y : S256x16x128.Idx) :
    (outsAt1 V c t.val t.isLt).1 y =
      headOut k1_pay17 (vC (iblk V c 0 t) (iblk V c 2 t)) (vB (iblk V c 1 t) (iblk V c 4 t))
        (vXd (iblk V c 1 t) (iblk V c 5 t) (vDx (k1_pay6 (bxR (iblk V c 1 t))) (vD (iblk V c 0 t) (iblk V c 3 t)) (iblk V c 7 t)))
        (vAcs (k1_pay6 (bxR (iblk V c 1 t))) (vD (iblk V c 0 t) (iblk V c 3 t)) (iblk V c 6 t))
        k1_pay3 (y 0) (y 1) (y 2) := by
  rw [outsAt1_A V c t h0]
  frame_open
  simp (disch := decide) only [↓View.readCov_skip, ↓View.readCov_fill]
  frame_out
  generalize (k1_pay3 (F := Ideal)) = st
  simp only [vC, vB, vXd, vXs, vDs, vAcs, vDx, vD, vM, bxL, bxR, k1_pay32, k1_pay33, k1_pay34, k1_pay36]
  generalize k1_pay31 (F := Ideal) _ _ _ _ _ _ _ _ _ _ _ _ _ _ _ _ = A
  generalize k1_pay7 (F := Ideal) _ _ = C
  generalize k1_pay9 (F := Ideal) _ _ = B
  simp only [k1_pay43]
  generalize k1_pay39 (F := Ideal) _ _ = Xd
  generalize (k1_pay17) = M
  canon_tiles x hh
  all_goals (open_payloads; pointwise [headOut])
  all_goals (blk_point [])

set_option maxHeartbeats 1600000 in
/-- The block of results after a later point of a run, at an index: the carried state is what the point before left. -/
theorem out_B (c : Dev nD) (t : Fin cfg1.N) (h0 : ¬ t.val % 8 = 0) (y : S256x16x128.Idx) :
    (outsAt1 V c t.val t.isLt).1 y =
      headOut k1_pay17 (vC (iblk V c 0 t) (iblk V c 2 t)) (vB (iblk V c 1 t) (iblk V c 4 t))
        (vXd (iblk V c 1 t) (iblk V c 5 t) (vDx (k1_pay6 (bxR (iblk V c 1 t))) (vD (iblk V c 0 t) (iblk V c 3 t)) (iblk V c 7 t)))
        (vAcs (k1_pay6 (bxR (iblk V c 1 t))) (vD (iblk V c 0 t) (iblk V c 3 t)) (iblk V c 6 t))
        (outsAt1 V c (t.val - 1) (Nat.lt_of_le_of_lt (Nat.sub_le _ _) t.isLt)).2 (y 0) (y 1) (y 2) := by
  rw [outsAt1_B V c t h0]
  frame_out
  generalize (outsAt1 V c (t.val - 1) (Nat.lt_of_le_of_lt (Nat.sub_le _ _) t.isLt)).2 = st
  simp only [vC, vB, vXd, vXs, vDs, vAcs, vDx, vD, vM, bxL, bxR, k1_pay32, k1_pay33, k1_pay34, k1_pay36]
  generalize k1_pay31 (F := Ideal) _ _ _ _ _ _ _ _ _ _ _ _ _ _ _ _ = A
  generalize k1_pay7 (F := Ideal) _ _ = C
  generalize k1_pay9 (F := Ideal) _ _ = B
  simp only [k1_pay43]
  generalize k1_pay39 (F := Ideal) _ _ = Xd
  generalize (k1_pay17) = M
  canon_tiles x hh
  all_goals (open_payloads; pointwise [headOut])
  all_goals (blk_point [])
  all_goals (refine (congrFun ((Memref.isWhole_whole cc1_scratch0).read_unread st) _).trans ?_; blk_ext)

set_option maxHeartbeats 1600000 in
/-- The state after a first point of a run, at an index. -/
theorem state_A (c : Dev nD) (t : Fin cfg1.N) (h0 : t.val % 8 = 0) (y : S16x128x128.Idx) :
    (outsAt1 V c t.val t.isLt).2 y =
      headState (vB (iblk V c 1 t) (iblk V c 4 t))
        (vXs (iblk V c 1 t) (iblk V c 5 t) (vDs (k1_pay6 (bxR (iblk V c 1 t))) (vD (iblk V c 0 t) (iblk V c 3 t)) (iblk V c 6 t)) (iblk V c 7 t) (vDx (k1_pay6 (bxR (iblk V c 1 t))) (vD (iblk V c 0 t) (iblk V c 3 t)) (iblk V c 7 t)))
        (vAcs (k1_pay6 (bxR (iblk V c 1 t))) (vD (iblk V c 0 t) (iblk V c 3 t)) (iblk V c 6 t))
        k1_pay3 (y 0) (y 1) (y 2) := by
  rw [outsAt1_A V c t h0]
  frame_open
  simp (disch := decide) only [↓View.readCov_skip, ↓View.readCov_fill]
  frame_out
  generalize (k1_pay3 (F := Ideal)) = st
  simp only [vC, vB, vXd, vXs, vDs, vAcs, vDx, vD, vM, bxL, bxR, k1_pay32, k1_pay33, k1_pay34, k1_pay36]
  generalize k1_pay31 (F := Ideal) _ _ _ _ _ _ _ _ _ _ _ _ _ _ _ _ = A
  generalize k1_pay9 (F := Ideal) _ _ = B
  simp only [k1_pay44]
  generalize k1_pay40 (F := Ideal) _ _ _ _ = Xs
  refine (canon_append_covered [_] [_, _, _, _, _, _, _, _, _, _, _, _, _, _, _, _] y ?_).trans ?_
  · exact View.cover_of_tiledL (s := S16x128x128) _ ![1, 128, 128] (by sl_kernel_rfl) y
  canon_tiles x hh
  all_goals (open_payloads; pointwise [headState])
  all_goals (blk_point [])

set_option maxHeartbeats 1600000 in
/-- The state after a later point of a run, at an index. -/
theorem state_B (c : Dev nD) (t : Fin cfg1.N) (h0 : ¬ t.val % 8 = 0) (y : S16x128x128.Idx) :
    (outsAt1 V c t.val t.isLt).2 y =
      headState (vB (iblk V c 1 t) (iblk V c 4 t))
        (vXs (iblk V c 1 t) (iblk V c 5 t) (vDs (k1_pay6 (bxR (iblk V c 1 t))) (vD (iblk V c 0 t) (iblk V c 3 t)) (iblk V c 6 t)) (iblk V c 7 t) (vDx (k1_pay6 (bxR (iblk V c 1 t))) (vD (iblk V c 0 t) (iblk V c 3 t)) (iblk V c 7 t)))
        (vAcs (k1_pay6 (bxR (iblk V c 1 t))) (vD (iblk V c 0 t) (iblk V c 3 t)) (iblk V c 6 t))
        (outsAt1 V c (t.val - 1) (Nat.lt_of_le_of_lt (Nat.sub_le _ _) t.isLt)).2 (y 0) (y 1) (y 2) := by
  rw [outsAt1_B V c t h0]
  frame_out
  generalize (outsAt1 V c (t.val - 1) (Nat.lt_of_le_of_lt (Nat.sub_le _ _) t.isLt)).2 = st
  simp only [vC, vB, vXd, vXs, vDs, vAcs, vDx, vD, vM, bxL, bxR, k1_pay32, k1_pay33, k1_pay34, k1_pay36]
  generalize k1_pay31 (F := Ideal) _ _ _ _ _ _ _ _ _ _ _ _ _ _ _ _ = A
  generalize k1_pay9 (F := Ideal) _ _ = B
  simp only [k1_pay44]
  generalize k1_pay40 (F := Ideal) _ _ _ _ = Xs
  canon_tiles x hh
  all_goals (open_payloads; pointwise [headState])
  all_goals (blk_point [])
  all_goals (refine (congrFun ((Memref.isWhole_whole cc1_scratch0).read_unread st) _).trans ?_; blk_ext)

end Cert.KernelIdeal.Ssd

end
-- ==== Proof.KernelIdeal.Ssd.Terms.lean ====
/-
  The vectors that the body of the scan (the second kernel call) computes once for all heads, each read at an index.
-/
module

public import proofs.«01_k».proof.Proof.KernelIdeal.Ssd.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

open Idealize.ShloMosaic.WordCmp

namespace Cert.KernelIdeal.Ssd

open Cert.KernelIdeal Cert.KernelIdeal.Gen

/-- The first 512 columns at an index. -/
theorem bxL_apply (x1 : Vec Ideal S256x576 .f32) (r : Fin 256) (m : Fin 512) : bxL x1 (ix2 r m) = x1 (ix2 r ⟨m.val, by omega⟩) := by
  unfold bxL
  refine View.ld_unit_apply_of _ _ _ _ _ _ fun a => ?_
  fin_cases a <;> simp
/-- The last 64 columns at an index. -/
theorem bxR_apply (x1 : Vec Ideal S256x576 .f32) (r : Fin 256) (m : Fin 64) : bxR x1 (ix2 r m) = x1 (ix2 r ⟨512 + m.val, by omega⟩) := by
  unfold bxR
  refine View.ld_unit_apply_of _ _ _ _ _ _ fun a => ?_
  fin_cases a <;> simp
/-- C at an index: the contraction with the weight rows. -/
theorem vC_apply (x0 : Vec Ideal S256x1536 .bf16) (x2 : Vec Ideal S2048x1536 .bf16) (r : Fin 256) (k : Fin 2048) :
    vC x0 x2 (ix2 r k) = ∑ m : Fin 1536, x0 (ix2 r m) * x2 (ix2 k m) := by
  unfold vC
  open_payloads
  pointwise []
/-- The left factor of the step size at an index. -/
theorem vD_apply (x0 : Vec Ideal S256x1536 .bf16) (x2 : Vec Ideal S1024x1536 .bf16) (r : Fin 256) (k : Fin 1024) :
    vD x0 x2 (ix2 r k) = ∑ m : Fin 1536, x0 (ix2 r m) * x2 (ix2 k m) := by
  unfold vD
  open_payloads
  pointwise []
/-- B at an index. -/
theorem vB_apply (x1 : Vec Ideal S256x576 .f32) (x4 : Vec Ideal S2048x512 .bf16) (r : Fin 256) (k : Fin 2048) :
    vB x1 x4 (ix2 r k) = ∑ m : Fin 512, x1 (ix2 r ⟨m.val, by omega⟩) * x4 (ix2 k m) := by
  unfold vB
  open_payloads
  pointwise [bxL_apply]
/-- X times the step size at an index. -/
theorem vXd_apply (x1 : Vec Ideal S256x576 .f32) (x5 : Vec Ideal S2048x512 .bf16) (dx : FVec Ideal S256x2048 .bf16) (r : Fin 256) (k : Fin 2048) :
    vXd x1 x5 dx (ix2 r k) = (∑ m : Fin 512, x1 (ix2 r ⟨m.val, by omega⟩) * x5 (ix2 k m)) * dx (ix2 r k) := by
  unfold vXd
  open_payloads
  pointwise [bxL_apply]
/-- X times step size and decay at an index. -/
theorem vXs_apply (x1 : Vec Ideal S256x576 .f32) (x5 : Vec Ideal S2048x512 .bf16) (ds : FVec Ideal S256x16 .f32) (x7 : Vec Ideal S16x2048 .bf16) (dx : FVec Ideal S256x2048 .bf16) (r : Fin 256) (k : Fin 2048) :
    vXs x1 x5 ds x7 dx (ix2 r k) = (∑ m : Fin 512, x1 (ix2 r ⟨m.val, by omega⟩) * x5 (ix2 k m)) * dx (ix2 r k) * ∑ h : Fin 16, ds (ix2 r h) * x7 (ix2 h k) := by
  unfold vXs
  open_payloads
  pointwise [bxL_apply]
/-- The repeated step size at an index. -/
theorem vDx_apply (T : FVec Ideal S256x64 .f32) (D : FVec Ideal S256x1024 .f32) (x7 : Vec Ideal S16x2048 .bf16) (r : Fin 256) (k : Fin 2048) :
    vDx T D x7 (ix2 r k) = ∑ h : Fin 16, vDt T D (ix2 r h) * x7 (ix2 h k) := by
  unfold vDx vDt k1_pay38
  generalize k1_pay30 (F := Ideal) _ _ _ _ _ _ _ _ _ _ _ _ _ _ = A
  open_payloads
  pointwise []
/-- The decay to the end of the block at an index. -/
theorem vDs_apply (T : FVec Ideal S256x64 .f32) (D : FVec Ideal S256x1024 .f32) (x6 : Vec Ideal S1x1x16 .f32) (r : Fin 256) (h : Fin 16) :
    vDs T D x6 (ix2 r h) = Ideal.exp (vAcs T D x6 (ix2 255 h) - vAcs T D x6 (ix2 r h)) := by
  unfold vDs vAcs k1_pay35 k1_pay34
  generalize k1_pay31 (F := Ideal) _ _ _ _ _ _ _ _ _ _ _ _ _ _ _ _ = A
  pointwise []
/-- The cumulative sum at an index: the masked sum over the rows of the block. -/
theorem vAcs_apply (T : FVec Ideal S256x64 .f32) (D : FVec Ideal S256x1024 .f32) (x6 : Vec Ideal S1x1x16 .f32) (r : Fin 256) (h : Fin 16) :
    vAcs T D x6 (ix2 r h) = ∑ s : Fin 256, vM (ix2 r s) * (vDt T D (ix2 s h) * x6 (ix3 0 0 h)) := by
  unfold vAcs vDt k1_pay31
  generalize k1_pay30 (F := Ideal) _ _ _ _ _ _ _ _ _ _ _ _ _ _ = A
  generalize vM = M
  open_payloads
  pointwise []

/-- Softplus, as the body writes it. -/
def sp (z : EReal) : EReal := max z 0 + Ideal.log1p (Ideal.exp (0 - FloatOps.absf (F := Ideal) (φ := .f32) z))
set_option maxHeartbeats 1600000 in
/-- The step size at an index: softplus of the contraction of one head. -/
theorem vDt_apply (T : FVec Ideal S256x64 .f32) (D : FVec Ideal S256x1024 .f32) (r : Fin 256) (h : Fin 16) :
    vDt T D (ix2 r h) = sp (∑ d : Fin 64, D (ix2 r ⟨h.val * 64 + d.val, by omega⟩) * T (ix2 r d)) := by
  unfold vDt
  open_payloads
  pointwise [sp]
  fin_vals h with hk
  all_goals simp only [hk, Nat.reduceSub, Nat.reduceLT, ↓reduceDIte]
  all_goals blk_point []
/-- The floor division by the block length, as the body writes it. -/
def fdiv (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 256#32 0#32)) (Scalar.extui (Scalar.cmpi CmpIPredicate.slt 256#32 0#32))))
      (IntOp.cmpi CmpIPredicate.ne (IntOp.remsi ArithUnit.vector x 256#32) 0#32))
    (IntOp.subi (IntOp.divsi ArithUnit.vector x 256#32) 1#32)
    (IntOp.divsi ArithUnit.vector x 256#32)
/-- Every row of a block has quotient zero. -/
theorem fdiv_zero : ∀ r : Fin 256, fdiv (BitVec.ofNat 32 r.val) = 0#32 := by decide +kernel
/-- The comparison of two row numbers. -/
theorem ge_apply (r s : Fin 256) : IntOp.cmpi CmpIPredicate.sge (BitVec.ofNat 32 r.val) (BitVec.ofNat 32 s.val) = if s ≤ r then 1#1 else 0#1 := by
  rw [cmpi_sge_ofNat (by omega) (by omega)]
  by_cases h : s ≤ r
  · simp [h, Fin.le_def.mp h]
  · simp [h, fun h' => h (Fin.le_def.mpr h')]
/-- The mask of the cumulative sum: one up to the diagonal. -/
theorem vM_apply (r s : Fin 256) : vM (ix2 r s) = if s ≤ r then (1 : EReal) else 0 := by
  unfold vM
  open_payloads
  pointwise []
  rw [ge_apply]
  show Scalar.select (IntOp.andi _ (IntOp.cmpi .eq (fdiv (BitVec.ofNat 32 r.val)) (fdiv (BitVec.ofNat 32 s.val)))) _ _ = _
  rw [fdiv_zero, fdiv_zero]
  by_cases h : s ≤ r
  · rw [if_pos h, if_pos h]; rfl
  · rw [if_neg h, if_neg h]; rfl
/-- The causal mask of a block. -/
theorem pay17_apply (r s : Fin 256) : k1_pay17 (ix2 r s) = if s ≤ r then 1#1 else 0#1 := by
  unfold k1_pay17
  pointwise []
  exact ge_apply r s
/-- The state starts at zero. -/
theorem pay3_apply (y) : k1_pay3 (F := Ideal) y = (0 : EReal) := by
  unfold k1_pay3
  pointwise []
end Cert.KernelIdeal.Ssd

end
-- ==== Proof.Value.Model.lean ====
/-
  The state-space scan over the real numbers: its closed form, and the rule by which a chunk of rows continues it from the state
  carried into the chunk. The rule is stated for any chunk length, so that programs with different chunk lengths meet in the closed
  form.
-/
module

public import Idealize.ShloMosaic.Lib.Pointwise

@[expose] public section

noncomputable section

namespace Cert.Scan

open Finset

/-- The sum of the first `m` decrements. -/
def Dp (dA : ℕ → ℝ) (m : ℕ) : ℝ := ∑ k ∈ range m, dA k

/-- The state before row `m`: every earlier row's outer product of B and X, decayed up to row `m`. -/
def St (B X : ℕ → ℕ → ℝ) (dt dA : ℕ → ℝ) (m n p : ℕ) : ℝ :=
  ∑ s ∈ range m, B s n * (X s p * dt s) * Real.exp (Dp dA m - Dp dA (s + 1))

/-- The result of row `t`: the sum over this and all earlier rows, each decayed up to row `t`. -/
def Yv (C B X : ℕ → ℕ → ℝ) (dt dA : ℕ → ℝ) (t p : ℕ) : ℝ :=
  ∑ s ∈ range (t + 1), (∑ n : Fin 128, C t n * B s n) * Real.exp (Dp dA (t + 1) - Dp dA (s + 1)) * (X s p * dt s)

variable (C B X : ℕ → ℕ → ℝ) (dt dA : ℕ → ℝ)

theorem Dp_add (m r : ℕ) : Dp dA (m + r) = Dp dA m + ∑ k ∈ range r, dA (m + k) := sum_range_add dA m r

/-- There is no state before the first row. -/
theorem St_zero (n p : ℕ) : St B X dt dA 0 n p = 0 := by simp [St]

/-- A masked sum over a chunk is the sum over its first rows. -/
theorem sum_masked (L r : ℕ) (hr : r < L) (f : ℕ → ℝ) :
    (∑ s : Fin L, if s.val ≤ r then f s.val else 0) = ∑ s ∈ range (r + 1), f s := by
  rw [Fin.sum_univ_eq_sum_range (fun s => if s ≤ r then f s else 0) L, ← sum_filter]
  refine sum_congr ?_ fun _ _ => rfl
  ext s
  simp only [mem_filter, mem_range]
  omega

/-- A row of a chunk: the chunk's own rows up to it, and the state carried into the chunk. -/
theorem chunk_out (L m r p : ℕ) (hr : r < L) (cs : ℕ → ℝ) (hcs : ∀ s < L, cs s = Dp dA (m + s + 1) - Dp dA m) :
    (∑ s : Fin L, (∑ n : Fin 128, C (m + r) n * B (m + s) n) * (if s.val ≤ r then Real.exp (cs r - cs s) else 0) * (X (m + s) p * dt (m + s)))
      + (∑ n : Fin 128, C (m + r) n * St B X dt dA m n p) * Real.exp (cs r) = Yv C B X dt dA (m + r) p := by
  have h1 : (∑ s : Fin L, (∑ n : Fin 128, C (m + r) n * B (m + s) n) * (if s.val ≤ r then Real.exp (cs r - cs s) else 0) * (X (m + s) p * dt (m + s)))
      = ∑ s ∈ range (r + 1), (∑ n : Fin 128, C (m + r) n * B (m + s) n) * Real.exp (Dp dA (m + r + 1) - Dp dA (m + s + 1)) * (X (m + s) p * dt (m + s)) := by
    rw [← sum_masked L r hr]
    refine sum_congr rfl fun s _ => ?_
    by_cases h : s.val ≤ r
    · rw [if_pos h, if_pos h, hcs r hr, hcs s s.isLt]
      congr 3
      ring
    · rw [if_neg h, if_neg h]; ring
  have h2 : (∑ n : Fin 128, C (m + r) n * St B X dt dA m n p) * Real.exp (cs r)
      = ∑ s ∈ range m, (∑ n : Fin 128, C (m + r) n * B s n) * Real.exp (Dp dA (m + r + 1) - Dp dA (s + 1)) * (X s p * dt s) := by
    rw [hcs r hr, sum_mul]
    simp only [St, mul_sum, sum_mul]
    rw [sum_comm]
    refine sum_congr rfl fun s _ => sum_congr rfl fun n _ => ?_
    have : Real.exp (Dp dA (m + r + 1) - Dp dA (s + 1)) = Real.exp (Dp dA m - Dp dA (s + 1)) * Real.exp (Dp dA (m + r + 1) - Dp dA m) := by
      rw [← Real.exp_add]; congr 1; ring
    rw [this]; ring
  rw [h1, h2, Yv, add_assoc m r 1, add_comm]
  exact (sum_range_add (fun s => (∑ n : Fin 128, C (m + r) n * B s n) * Real.exp (Dp dA (m + (r + 1)) - Dp dA (s + 1)) * (X s p * dt s)) m (r + 1)).symm

/-- The state after a chunk: the state before it decayed over the chunk, and the chunk's own rows. -/
theorem chunk_state (L m n p : ℕ) (cs : ℕ → ℝ) (tot : ℝ) (hcs : ∀ s < L, cs s = Dp dA (m + s + 1) - Dp dA m) (htot : tot = Dp dA (m + L) - Dp dA m) :
    St B X dt dA m n p * Real.exp tot + (∑ s : Fin L, B (m + s) n * (X (m + s) p * dt (m + s) * Real.exp (tot - cs s))) = St B X dt dA (m + L) n p := by
  rw [St, St, sum_range_add, sum_mul, ← Fin.sum_univ_eq_sum_range (fun s => B (m + s) n * (X (m + s) p * dt (m + s)) * Real.exp (Dp dA (m + L) - Dp dA (m + s + 1)))]
  congr 1
  · refine sum_congr rfl fun s _ => ?_
    rw [mul_assoc, ← Real.exp_add, htot]
    congr 2
    ring
  · refine sum_congr rfl fun s _ => ?_
    rw [hcs s s.isLt, htot, ← mul_assoc]
    congr 2
    ring

/-- The state before chunk `z` as a sum over the chunks before it: each chunk's own state decayed over the chunks that follow it. -/
theorem chunks_state (L z n p : ℕ) (P : ℕ → ℝ) (S : ℕ → ℝ) (hP : ∀ k, P k = Dp dA (L * k))
    (hS : ∀ k, S k = ∑ s : Fin L, B (L * k + s) n * (X (L * k + s) p * dt (L * k + s) * Real.exp (Dp dA (L * (k + 1)) - Dp dA (L * k + s + 1)))) :
    ∑ k ∈ range z, Real.exp (P z - P (k + 1)) * S k = St B X dt dA (L * z) n p := by
  induction z with
  | zero => simp [St]
  | succ z ih =>
    rw [sum_range_succ, Nat.mul_succ, ← chunk_state B X dt dA L (L * z) n p (fun s => Dp dA (L * z + s + 1) - Dp dA (L * z)) _ (fun _ _ => rfl) rfl, ← ih, sum_mul]
    congr 1
    · refine sum_congr rfl fun k _ => ?_
      have : Real.exp (P (z + 1) - P (k + 1)) = Real.exp (P z - P (k + 1)) * Real.exp (Dp dA (L * z + L) - Dp dA (L * z)) := by
        rw [← Real.exp_add, hP, hP z, Nat.mul_succ]; congr 1; ring
      rw [this]; ring
    · rw [sub_self, Real.exp_zero, one_mul, hS]
      refine sum_congr rfl fun s _ => ?_
      rw [Nat.mul_succ]
      congr 3
      ring

/-! ## What the scan runs on -/

/-- One entry of the projections C: row `t` of the first low-rank factor against a weight row of head `H`. -/
def Cf (a wC : ℕ → ℕ → ℝ) (H t n : ℕ) : ℝ := ∑ m : Fin 1536, a t m * wC (H * 128 + n) m

/-- One entry of the projections B, or X: the first 512 columns of row `t` of the second low-rank factor against a weight row of head `H`. -/
def Lf (bx w : ℕ → ℕ → ℝ) (H t n : ℕ) : ℝ := ∑ m : Fin 512, bx t m * w (H * 128 + n) m

/-- Softplus. -/
def spR (z : ℝ) : ℝ := max z 0 + Real.log (1 + Real.exp (-|z|))

theorem spR_nonneg (z : ℝ) : 0 ≤ spR z :=
  add_nonneg (le_max_right _ _) (Real.log_nonneg (by linarith [Real.exp_pos (-|z|)]))

/-- The step size of head `H` at row `t`: softplus of the contraction of the two factors' parts over the 64 step-size lanes. -/
def dtf (a bx wD : ℕ → ℕ → ℝ) (H t : ℕ) : ℝ := spR (∑ d : Fin 64, (∑ m : Fin 1536, a t m * wD (H * 64 + d) m) * bx t (512 + d))

/-- The decrement of head `H` at row `t`. -/
def dAf (a bx wD : ℕ → ℕ → ℝ) (A : ℕ → ℝ) (H t : ℕ) : ℝ := dtf a bx wD H t * A H

/-- The whole result: head `H`, row `t`, lane `p`. -/
def Yf (a bx wC wD wB wX : ℕ → ℕ → ℝ) (A : ℕ → ℝ) (H t p : ℕ) : ℝ :=
  Yv (Cf a wC H) (Lf bx wB H) (Lf bx wX H) (dtf a bx wD H) (dAf a bx wD A H) t p

/-- The state of head `H` before row `m`. -/
def Sf (a bx wD wB wX : ℕ → ℕ → ℝ) (A : ℕ → ℝ) (H m n p : ℕ) : ℝ :=
  St (Lf bx wB H) (Lf bx wX H) (dtf a bx wD H) (dAf a bx wD A H) m n p

theorem dAf_nonpos (a bx wD : ℕ → ℕ → ℝ) (A : ℕ → ℝ) (hA : ∀ H, A H ≤ 0) (H t : ℕ) : dAf a bx wD A H t ≤ 0 :=
  mul_nonpos_of_nonneg_of_nonpos (spR_nonneg _) (hA H)

/-- Along nonpositive decrements the cumulative sums fall. -/
theorem Dp_anti (hd : ∀ k, dA k ≤ 0) {m m' : ℕ} (h : m ≤ m') : Dp dA m' ≤ Dp dA m := by
  obtain ⟨r, rfl⟩ := Nat.exists_eq_add_of_le h
  rw [Dp_add]
  linarith [sum_nonpos fun k (_ : k ∈ range r) => hd (m + k)]

/-! ## The reals among the extended reals -/

open Idealize.ShloMosaic in
theorem coe_sum {ι : Type} (s : Finset ι) (f : ι → ℝ) : ((∑ i ∈ s, f i : ℝ) : EReal) = ∑ i ∈ s, (f i : EReal) := by
  induction s using Finset.cons_induction with
  | empty => simp
  | cons i s hi ih => rw [sum_cons, sum_cons, EReal.coe_add, ih]

open Idealize.ShloMosaic in
/-- A contraction of reals. -/
theorem sum_coe_mul {ι : Type} [Fintype ι] (f g : ι → ℝ) : ∑ i, (f i : EReal) * (g i : EReal) = ((∑ i, f i * g i : ℝ) : EReal) := by
  rw [coe_sum]
  exact sum_congr rfl fun i _ => (EReal.coe_mul _ _).symm

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

open Idealize.ShloMosaic in
/-- Softplus of a real. -/
theorem sp_coe (z : ℝ) : max (z : EReal) 0 + Ideal.log1p (Ideal.exp (-(max (z : EReal) (-(z : EReal))))) = ((spR z : ℝ) : EReal) := by
  have h : (1 : EReal) + ((Real.exp (-|z|) : ℝ) : EReal) = ((1 + Real.exp (-|z|) : ℝ) : EReal) := by rw [EReal.coe_add, EReal.coe_one]
  rw [← EReal.coe_neg, coe_max, ← EReal.coe_neg, Ideal.exp_coe]
  show _ + Ideal.log (1 + ((Real.exp (-|z|) : ℝ) : EReal)) = _
  rw [h, Ideal.log_coe, if_neg (by linarith [Real.exp_pos (-|z|)]), ← EReal.coe_zero, coe_max, ← EReal.coe_add]
  rfl

end Cert.Scan

end
-- ==== Proof.KernelIdeal.Ssd.Scan.lean ====
/-
  What the scan (the second kernel call) computes when its input arrays hold reals: the recurrence in closed form.
  One block of rows is done with the model's chunk identities; the state is carried by induction over the blocks.
-/
module

public import proofs.«01_k».proof.Proof.KernelIdeal.Ssd.Terms
public import proofs.«01_k».proof.Proof.Value.Model

@[expose] public section

set_option maxRecDepth 16384

noncomputable section

open Idealize.ShloMosaic Idealize.ShloMosaic.TcCoe Idealize.SL.Sem
open Idealize.ShloMosaic.Pipeline (Dat)
open Cert.Scan

namespace Cert.KernelIdeal.Ssd

open Cert.KernelIdeal Cert.KernelIdeal.Gen

/-- The blocks of one grid point hold reals: rows from `R` on, heads from `G` on. -/
structure Blk (a bx wC wD wB wX : ℕ → ℕ → ℝ) (A : ℕ → ℝ) (R G : ℕ) (x0 : Vec Ideal S256x1536 .bf16) (x1 : Vec Ideal S256x576 .f32) (x2 : Vec Ideal S2048x1536 .bf16)
    (x3 : Vec Ideal S1024x1536 .bf16) (x4 x5 : Vec Ideal S2048x512 .bf16) (x6 : Vec Ideal S1x1x16 .f32) (x7 : Vec Ideal S16x2048 .bf16) : Prop where
  h0 : ∀ r m, x0 (ix2 r m) = ((a (R + r.val) m.val : ℝ) : EReal)
  h1 : ∀ r m, x1 (ix2 r m) = ((bx (R + r.val) m.val : ℝ) : EReal)
  h2 : ∀ k m, x2 (ix2 k m) = ((wC (G * 128 + k.val) m.val : ℝ) : EReal)
  h3 : ∀ k m, x3 (ix2 k m) = ((wD (G * 64 + k.val) m.val : ℝ) : EReal)
  h4 : ∀ k m, x4 (ix2 k m) = ((wB (G * 128 + k.val) m.val : ℝ) : EReal)
  h5 : ∀ k m, x5 (ix2 k m) = ((wX (G * 128 + k.val) m.val : ℝ) : EReal)
  h6 : ∀ h, x6 (ix3 0 0 h) = ((A (G + h.val) : ℝ) : EReal)
  h7 : ∀ (h : Fin 16) (k : Fin 2048), x7 (ix2 h k) = (((if k.val / 128 = h.val then 1 else 0) : ℝ) : EReal)

section block

variable {a bx wC wD wB wX : ℕ → ℕ → ℝ} {A : ℕ → ℝ} {R G : ℕ} {x0 : Vec Ideal S256x1536 .bf16} {x1 : Vec Ideal S256x576 .f32} {x2 : Vec Ideal S2048x1536 .bf16}
  {x3 : Vec Ideal S1024x1536 .bf16} {x4 x5 : Vec Ideal S2048x512 .bf16} {x6 : Vec Ideal S1x1x16 .f32} {x7 : Vec Ideal S16x2048 .bf16}
  (H : Blk a bx wC wD wB wX A R G x0 x1 x2 x3 x4 x5 x6 x7)

/-- The last 64 columns pass unchanged. -/
theorem pay6_apply (x : FVec Ideal S256x64 .f32) (y) : k1_pay6 x y = x y := by
  unfold k1_pay6
  pointwise []

/-- A sum over the heads with one head's indicator is that head's term. -/
theorem pick (f : ℕ → ℝ) (h : Fin 16) (p : Fin 128) (D : Fin 16 → EReal) (E : Fin 16 → EReal) (hD : ∀ h', D h' = ((f h'.val : ℝ) : EReal))
    (hE : ∀ h' : Fin 16, E h' = (((if (h.val * 128 + p.val) / 128 = h'.val then 1 else 0) : ℝ) : EReal)) : ∑ h', D h' * E h' = ((f h.val : ℝ) : EReal) := by
  simp only [hD, hE]
  rw [sum_coe_mul]
  have hq : (h.val * 128 + p.val) / 128 = h.val := by omega
  rw [hq]
  congr 1
  rw [Finset.sum_eq_single h]
  · simp
  · intro b _ hb
    rw [if_neg fun e => hb (Fin.ext e.symm), mul_zero]
  · simp

include H in
theorem vC_real (r : Fin 256) (h : Fin 16) (n : Fin 128) : vC x0 x2 (ix2 r ⟨h.val * 128 + n.val, by omega⟩) = ((Cf a wC (G + h.val) (R + r.val) n.val : ℝ) : EReal) := by
  rw [vC_apply]
  simp only [H.h0, H.h2]
  rw [sum_coe_mul]
  unfold Cf
  simp only [show G * 128 + (h.val * 128 + n.val) = (G + h.val) * 128 + n.val by ring]

include H in
theorem vB_real (r : Fin 256) (h : Fin 16) (n : Fin 128) : vB x1 x4 (ix2 r ⟨h.val * 128 + n.val, by omega⟩) = ((Lf bx wB (G + h.val) (R + r.val) n.val : ℝ) : EReal) := by
  rw [vB_apply]
  simp only [H.h1, H.h4]
  rw [sum_coe_mul]
  unfold Lf
  simp only [show G * 128 + (h.val * 128 + n.val) = (G + h.val) * 128 + n.val by ring]

include H in
/-- The products X. -/
theorem x_real (r : Fin 256) (h : Fin 16) (p : Fin 128) : (∑ m : Fin 512, (x1 (ix2 r ⟨m.val, by omega⟩) : EReal) * (x5 (ix2 ⟨h.val * 128 + p.val, by omega⟩ m) : EReal)) = ((Lf bx wX (G + h.val) (R + r.val) p.val : ℝ) : EReal) := by
  simp only [H.h1, H.h5]
  rw [sum_coe_mul]
  unfold Lf
  simp only [show G * 128 + (h.val * 128 + p.val) = (G + h.val) * 128 + p.val by ring]

include H in
/-- The step sizes of the block. -/
theorem vDt_real (r : Fin 256) (h : Fin 16) : vDt (k1_pay6 (bxR x1)) (vD x0 x3) (ix2 r h) = ((dtf a bx wD (G + h.val) (R + r.val) : ℝ) : EReal) := by
  rw [vDt_apply]
  simp only [vD_apply, pay6_apply, bxR_apply, H.h0, H.h1, H.h3, sum_coe_mul]
  unfold dtf sp
  simp only [show ∀ d : ℕ, G * 64 + (h.val * 64 + d) = (G + h.val) * 64 + d from fun d => by ring]
  rw [← sp_coe, zero_sub]
  rfl

include H in
theorem vDx_real (r : Fin 256) (h : Fin 16) (p : Fin 128) : vDx (k1_pay6 (bxR x1)) (vD x0 x3) x7 (ix2 r ⟨h.val * 128 + p.val, by omega⟩) = ((dtf a bx wD (G + h.val) (R + r.val) : ℝ) : EReal) := by
  rw [vDx_apply]
  exact pick (fun h => dtf a bx wD (G + h) (R + r.val)) h p _ _ (fun h' => vDt_real H r h') fun h' => H.h7 h' _

/-- The cumulative decrements of the block. -/
def acs (a bx wD : ℕ → ℕ → ℝ) (A : ℕ → ℝ) (R K r : ℕ) : ℝ := Dp (dAf a bx wD A K) (R + r + 1) - Dp (dAf a bx wD A K) R

include H in
theorem vAcs_real (r : Fin 256) (h : Fin 16) : vAcs (k1_pay6 (bxR x1)) (vD x0 x3) x6 (ix2 r h) = ((acs a bx wD A R (G + h.val) r.val : ℝ) : EReal) := by
  rw [vAcs_apply]
  simp only [vDt_real H, H.h6, vM_apply]
  have h1 (s : Fin 256) : (if s ≤ r then (1 : EReal) else 0) = (((if s.val ≤ r.val then 1 else 0) : ℝ) : EReal) := by
    by_cases hs : s ≤ r
    · rw [if_pos hs, if_pos (Fin.le_def.mp hs), EReal.coe_one]
    · rw [if_neg hs, if_neg (fun h => hs (Fin.le_def.mpr h)), EReal.coe_zero]
  simp only [h1, ← EReal.coe_mul]
  rw [← coe_sum]
  congr 1
  unfold acs
  rw [add_assoc, Dp_add, add_sub_cancel_left, ← sum_masked 256 r.val r.isLt fun k => dAf a bx wD A (G + h.val) (R + k)]
  refine Finset.sum_congr rfl fun s _ => ?_
  by_cases hs : s.val ≤ r.val
  · simp [hs, dAf]
  · simp [hs]

include H in
theorem vDs_real (r : Fin 256) (h : Fin 16) : vDs (k1_pay6 (bxR x1)) (vD x0 x3) x6 (ix2 r h) = ((Real.exp (acs a bx wD A R (G + h.val) 255 - acs a bx wD A R (G + h.val) r.val) : ℝ) : EReal) := by
  rw [vDs_apply, vAcs_real H, vAcs_real H, ← EReal.coe_sub, Ideal.exp_coe]
  rfl

include H in
theorem vXd_real (r : Fin 256) (h : Fin 16) (p : Fin 128) : vXd x1 x5 (vDx (k1_pay6 (bxR x1)) (vD x0 x3) x7) (ix2 r ⟨h.val * 128 + p.val, by omega⟩)
    = ((Lf bx wX (G + h.val) (R + r.val) p.val * dtf a bx wD (G + h.val) (R + r.val) : ℝ) : EReal) := by
  rw [vXd_apply, vDx_real H, EReal.coe_mul, ← x_real H]

include H in
theorem vXs_real (r : Fin 256) (h : Fin 16) (p : Fin 128) : vXs x1 x5 (vDs (k1_pay6 (bxR x1)) (vD x0 x3) x6) x7 (vDx (k1_pay6 (bxR x1)) (vD x0 x3) x7) (ix2 r ⟨h.val * 128 + p.val, by omega⟩)
    = ((Lf bx wX (G + h.val) (R + r.val) p.val * dtf a bx wD (G + h.val) (R + r.val) * Real.exp (acs a bx wD A R (G + h.val) 255 - acs a bx wD A R (G + h.val) r.val) : ℝ) : EReal) := by
  rw [vXs_apply, vDx_real H, pick (fun h => Real.exp (acs a bx wD A R (G + h) 255 - acs a bx wD A R (G + h) r.val)) h p _ _ (fun h' => vDs_real H r h') fun h' => H.h7 h' _,
    EReal.coe_mul, EReal.coe_mul, ← x_real H]

include H in
/-- One block's output, from the state at its start. -/
theorem headOut_real (hA : ∀ K, A K ≤ 0) (st : FVec Ideal S16x128x128 .f32) (hst : ∀ h n p, st (ix3 h n p) = ((Sf a bx wD wB wX A (G + h.val) R n.val p.val : ℝ) : EReal))
    (r : Fin 256) (h : Fin 16) (p : Fin 128) :
    headOut k1_pay17 (vC x0 x2) (vB x1 x4) (vXd x1 x5 (vDx (k1_pay6 (bxR x1)) (vD x0 x3) x7)) (vAcs (k1_pay6 (bxR x1)) (vD x0 x3) x6) st r h p
      = ((Yf a bx wC wD wB wX A (G + h.val) (R + r.val) p.val : ℝ) : EReal) := by
  have hm (s : Fin 256) : Scalar.select (k1_pay17 (ix2 r s)) (Ideal.exp (min (((acs a bx wD A R (G + h.val) r.val : ℝ) : EReal) - ((acs a bx wD A R (G + h.val) s.val : ℝ) : EReal)) 0)) (0 : EReal)
      = (((if s.val ≤ r.val then Real.exp (acs a bx wD A R (G + h.val) r.val - acs a bx wD A R (G + h.val) s.val) else 0) : ℝ) : EReal) := by
    rw [pay17_apply]
    by_cases hs : s.val ≤ r.val
    · rw [if_pos hs, if_pos (Fin.le_def.mpr hs), ← EReal.coe_sub, ← EReal.coe_zero, coe_min, min_eq_left, Ideal.exp_coe]
      · rfl
      · have := Dp_anti (dA := dAf a bx wD A (G + h.val)) (dAf_nonpos a bx wD A hA _) (show R + s.val + 1 ≤ R + r.val + 1 by omega)
        unfold acs
        linarith
    · rw [if_neg hs, if_neg fun h => hs (Fin.le_def.mp h), EReal.coe_zero]
      rfl
  unfold headOut
  simp only [vC_real H, vB_real H, vXd_real H, vAcs_real H, hst, hm, sum_coe_mul]
  rw [Ideal.exp_coe]
  simp only [← EReal.coe_mul]
  rw [← coe_sum, ← EReal.coe_add]
  congr 1
  exact chunk_out (Cf a wC (G + h.val)) (Lf bx wB (G + h.val)) (Lf bx wX (G + h.val)) (dtf a bx wD (G + h.val)) (dAf a bx wD A (G + h.val)) 256 R r.val p.val r.isLt
    (acs a bx wD A R (G + h.val)) fun s _ => rfl

include H in
/-- One block's state, from the state at its start. -/
theorem headState_real (st : FVec Ideal S16x128x128 .f32) (hst : ∀ h n p, st (ix3 h n p) = ((Sf a bx wD wB wX A (G + h.val) R n.val p.val : ℝ) : EReal))
    (h : Fin 16) (n p : Fin 128) :
    headState (vB x1 x4) (vXs x1 x5 (vDs (k1_pay6 (bxR x1)) (vD x0 x3) x6) x7 (vDx (k1_pay6 (bxR x1)) (vD x0 x3) x7)) (vAcs (k1_pay6 (bxR x1)) (vD x0 x3) x6) st h n p
      = ((Sf a bx wD wB wX A (G + h.val) (R + 256) n.val p.val : ℝ) : EReal) := by
  unfold headState
  simp only [vB_real H, vXs_real H, vAcs_real H, hst, sum_coe_mul]
  rw [Ideal.exp_coe, ← EReal.coe_mul, ← EReal.coe_add]
  congr 1
  exact chunk_state (Lf bx wB (G + h.val)) (Lf bx wX (G + h.val)) (dtf a bx wD (G + h.val)) (dAf a bx wD A (G + h.val)) 256 R n.val p.val
    (acs a bx wD A R (G + h.val)) (acs a bx wD A R (G + h.val) 255) (fun s _ => rfl) rfl

end block

variable (V : (c : Dev nD) → (b : Ref sig .tc) → Buf (Elt Ideal) ((c : Thread nD τ).loc b))

/-- The block index of every window at every grid point. -/
theorem idx : ∀ t : Fin cfg1.N, win1_0.index t = ![t.val % 8, 0] ∧ win1_1.index t = ![t.val % 8, 0] ∧ win1_2.index t = ![t.val / 8, 0] ∧ win1_3.index t = ![t.val / 8, 0]
    ∧ win1_4.index t = ![t.val / 8, 0] ∧ win1_5.index t = ![t.val / 8, 0] ∧ win1_6.index t = ![t.val / 8, 0, 0] ∧ win1_7.index t = ![0, 0] ∧ win1_8.index t = ![t.val % 8, t.val / 8, 0] :=
  (by decide +kernel : ∀ t : Fin grid1.N, _)

/-- The input arrays hold reals. -/
structure Arrs (a bx wC wD wB wX : ℕ → ℕ → ℝ) (A : ℕ → ℝ) (x0 : Vec Ideal S2048x1536 .bf16) (x1 : Vec Ideal S2048x576 .f32) (x2 : Vec Ideal S16384x1536 .bf16)
    (x3 : Vec Ideal S8192x1536 .bf16) (x4 x5 : Vec Ideal S16384x512 .bf16) (x6 : Vec Ideal S8x1x16 .f32) (x7 : Vec Ideal S16x2048 .bf16) : Prop where
  h0 : ∀ r m, x0 (ix2 r m) = ((a r.val m.val : ℝ) : EReal)
  h1 : ∀ r m, x1 (ix2 r m) = ((bx r.val m.val : ℝ) : EReal)
  h2 : ∀ k m, x2 (ix2 k m) = ((wC k.val m.val : ℝ) : EReal)
  h3 : ∀ k m, x3 (ix2 k m) = ((wD k.val m.val : ℝ) : EReal)
  h4 : ∀ k m, x4 (ix2 k m) = ((wB k.val m.val : ℝ) : EReal)
  h5 : ∀ k m, x5 (ix2 k m) = ((wX k.val m.val : ℝ) : EReal)
  h6 : ∀ b h, x6 (ix3 b 0 h) = ((A (b.val * 16 + h.val) : ℝ) : EReal)
  h7 : ∀ (h : Fin 16) (k : Fin 2048), x7 (ix2 h k) = (((if k.val / 128 = h.val then 1 else 0) : ℝ) : EReal)

variable {a bx wC wD wB wX : ℕ → ℕ → ℝ} {A : ℕ → ℝ} {c : Dev nD}
  (H : Arrs a bx wC wD wB wX A (V c main_call1_v0_0) (V c main_call1_v0_1) (V c main_v7) (V c main_v10) (V c main_v14) (V c main_v17) (V c main_v3) (V c main_v26))

set_option maxHeartbeats 1600000 in
include H in
/-- The blocks of grid point `t`. -/
theorem blk (t : Fin cfg1.N) : Blk a bx wC wD wB wX A (256 * (t.val % 8)) (16 * (t.val / 8)) (iblk V c 0 t) (iblk V c 1 t) (iblk V c 2 t) (iblk V c 3 t) (iblk V c 4 t) (iblk V c 5 t) (iblk V c 6 t) (iblk V c 7 t) := by
  have ht : t.val < 64 := t.isLt
  constructor
  · intro r m
    refine Eq.trans ?_ (H.h0 ⟨256 * (t.val % 8) + r.val, by omega⟩ m)
    show V c _ _ = V c _ _
    blk_ext [idx t]
  · intro r m
    refine Eq.trans ?_ (H.h1 ⟨256 * (t.val % 8) + r.val, by omega⟩ m)
    show V c _ _ = V c _ _
    blk_ext [idx t]
  · intro k m
    refine Eq.trans ?_ (H.h2 ⟨16 * (t.val / 8) * 128 + k.val, by omega⟩ m)
    show V c _ _ = V c _ _
    blk_ext [idx t]
  · intro k m
    refine Eq.trans ?_ (H.h3 ⟨16 * (t.val / 8) * 64 + k.val, by omega⟩ m)
    show V c _ _ = V c _ _
    blk_ext [idx t]
  · intro k m
    refine Eq.trans ?_ (H.h4 ⟨16 * (t.val / 8) * 128 + k.val, by omega⟩ m)
    show V c _ _ = V c _ _
    blk_ext [idx t]
  · intro k m
    refine Eq.trans ?_ (H.h5 ⟨16 * (t.val / 8) * 128 + k.val, by omega⟩ m)
    show V c _ _ = V c _ _
    blk_ext [idx t]
  · intro h
    refine Eq.trans ?_ ((H.h6 ⟨t.val / 8, by omega⟩ h).trans (by rw [show t.val / 8 * 16 + h.val = 16 * (t.val / 8) + h.val by ring]))
    show V c _ _ = V c _ _
    blk_ext [idx t]
  · intro h k
    refine Eq.trans ?_ (H.h7 h k)
    show V c _ _ = V c _ _
    blk_ext [idx t]

include H in
/-- The state after point `t`: all rows up to the end of its block are in. -/
theorem state_real (k : ℕ) : ∀ t : Fin cfg1.N, t.val % 8 = k → ∀ (h : Fin 16) (n p : Fin 128),
    (outsAt1 V c t.val t.isLt).2 (ix3 h n p) = ((Sf a bx wD wB wX A (16 * (t.val / 8) + h.val) (256 * k + 256) n.val p.val : ℝ) : EReal) := by
  induction k with
  | zero =>
    intro t ht h n p
    rw [state_A V c t ht]
    have hb := blk V H t
    rw [ht, Nat.mul_zero] at hb
    exact headState_real hb _ (fun h n p => by rw [pay3_apply, Sf, St_zero, EReal.coe_zero]) h n p
  | succ k ih =>
    intro t ht h n p
    rw [state_B V c t (by omega)]
    have hb := blk V H t
    rw [ht] at hb
    refine headState_real hb _ (fun h n p => ?_) h n p
    rw [ih ⟨t.val - 1, by omega⟩ (show (t.val - 1) % 8 = k by omega) h n p]
    rw [show (t.val - 1) / 8 = t.val / 8 by omega, show 256 * k + 256 = 256 * (k + 1) by ring]

include H in
/-- The output block of point `t`. -/
theorem out_real (hA : ∀ K, A K ≤ 0) (t : Fin cfg1.N) (y : S256x16x128.Idx) :
    (outsAt1 V c t.val t.isLt).1 y = ((Yf a bx wC wD wB wX A (16 * (t.val / 8) + (y 1).val) (256 * (t.val % 8) + (y 0).val) (y 2).val : ℝ) : EReal) := by
  by_cases ht : t.val % 8 = 0
  · rw [out_A V c t ht]
    refine headOut_real (blk V H t) hA _ (fun h n p => ?_) _ _ _
    rw [pay3_apply, ht, Nat.mul_zero, Sf, St_zero, EReal.coe_zero]
  · rw [out_B V c t ht]
    refine headOut_real (blk V H t) hA _ (fun h n p => ?_) _ _ _
    rw [state_real V H ((t.val - 1) % 8) ⟨t.val - 1, by omega⟩ rfl h n p]
    rw [show (t.val - 1) / 8 = t.val / 8 by omega, show 256 * ((t.val - 1) % 8) + 256 = 256 * (t.val % 8) by omega]

include H in
/-- The output array: rows, heads, lanes. -/
theorem arr_real (hA : ∀ K, A K ≤ 0) (y : S2048x128x128.Idx) :
    (dat V c).arrAt 8 cfg1.N y = ((Yf a bx wC wD wB wX A (y 1).val (y 0).val (y 2).val : ℝ) : EReal) := by
  have h := (dat V c).arrAt_eq_of_covers 8 (fun y : S2048x128x128.Idx => ((Yf a bx wC wD wB wX A (y 1).val (y 0).val (y 2).val : ℝ) : EReal)) (by decide +kernel) fun t hf y => ?_
  · exact congrFun h y
  · blk_simp
    rw [after1_8]
    refine (out_real V H hA t y).trans ?_
    blk_point [idx t]
    all_goals omega

end Cert.KernelIdeal.Ssd

end
-- ==== Proof.Value.Lift.lean ====
/-
  Arrays whose entries are real numbers, read as functions of natural numbers.
-/
module

public import Idealize.ShloMosaic.Lib.Pointwise

@[expose] public section

noncomputable section

open Idealize.ShloMosaic

namespace Cert.Lift

/-- Every entry is a real number. -/
def AllReal {s : Shape} (x : s.Idx → EReal) : Prop := ∀ i, x i = ((EReal.toReal (x i) : ℝ) : EReal)

/-- The entries of a vector. -/
def r1 {a : ℕ} (x : (⟨1, ![a]⟩ : Shape).Idx → EReal) (i : ℕ) : ℝ := if h : i < a then EReal.toReal (x (ix1 ⟨i, h⟩)) else 0

/-- The entries of a matrix. -/
def r2 {a b : ℕ} (x : (⟨2, ![a, b]⟩ : Shape).Idx → EReal) (i j : ℕ) : ℝ := if h : i < a ∧ j < b then EReal.toReal (x (ix2 ⟨i, h.1⟩ ⟨j, h.2⟩)) else 0

/-- The entries of a matrix under a unit axis. -/
def r3 {a b : ℕ} (x : (⟨3, ![1, a, b]⟩ : Shape).Idx → EReal) (i j : ℕ) : ℝ := if h : i < a ∧ j < b then EReal.toReal (x (ix3 0 ⟨i, h.1⟩ ⟨j, h.2⟩)) else 0

theorem r1_eq {a : ℕ} {x : (⟨1, ![a]⟩ : Shape).Idx → EReal} (hx : AllReal x) (i : Fin a) : x (ix1 i) = ((r1 x i.val : ℝ) : EReal) := by
  rw [r1, dif_pos i.isLt]; exact hx _

theorem r2_eq {a b : ℕ} {x : (⟨2, ![a, b]⟩ : Shape).Idx → EReal} (hx : AllReal x) (i : Fin a) (j : Fin b) : x (ix2 i j) = ((r2 x i.val j.val : ℝ) : EReal) := by
  rw [r2, dif_pos ⟨i.isLt, j.isLt⟩]; exact hx _

theorem r3_eq {a b : ℕ} {x : (⟨3, ![1, a, b]⟩ : Shape).Idx → EReal} (hx : AllReal x) (i : Fin a) (j : Fin b) : x (ix3 0 i j) = ((r3 x i.val j.val : ℝ) : EReal) := by
  rw [r3, dif_pos ⟨i.isLt, j.isLt⟩]; exact hx _

/-- Row `t` of the first matrix against row `q` of the second, over `n` columns. -/
def low (n : ℕ) (x w : ℕ → ℕ → ℝ) (t q : ℕ) : ℝ := ∑ k : Fin n, x t k.val * w q k.val

end Cert.Lift

end
-- ==== Proof.KernelIdeal.Result.lean ====
/-
  The kernel's result, where the arguments are real numbers: the closed form of the scan on the two low-rank factors.
-/
module

public import proofs.«01_k».proof.Proof.KernelIdeal.Host
public import proofs.«01_k».proof.Proof.KernelIdeal.Proj.Value
public import proofs.«01_k».proof.Proof.KernelIdeal.Ssd.Scan
public import proofs.«01_k».proof.Proof.Value.Lift

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Whole Cert.Lift

variable (m : (ℓ : Loc nD τ sig) → Buf (Elt Ideal) ℓ) (c : Dev nD)

/-- The arguments are real numbers. -/
structure Real : Prop where
  h0 : AllReal (s := S1x2048x7168) (m ((c.tc : Thread nD τ).loc main_arg0))
  h1 : AllReal (s := S1536x7168) (m ((c.tc : Thread nD τ).loc main_arg1))
  h2 : AllReal (s := S24576x1536) (m ((c.tc : Thread nD τ).loc main_arg2))
  h3 : AllReal (s := S576x7168) (m ((c.tc : Thread nD τ).loc main_arg3))
  h4 : AllReal (s := S32768x512) (m ((c.tc : Thread nD τ).loc main_arg4))
  h5 : AllReal (s := S128) (m ((c.tc : Thread nD τ).loc main_arg5))

/-- The first contraction of real numbers. -/
theorem fullA_real (X : FVec Ideal S2048x7168 .f32) (W : FVec Ideal S1536x7168 .bf16) (x w : ℕ → ℕ → ℝ) (hX : ∀ i k, X (ix2 i k) = ((x i.val k.val : ℝ) : EReal))
    (hW : ∀ i k, W (ix2 i k) = ((w i.val k.val : ℝ) : EReal)) (r : Fin 2048) (q : Fin 1536) : Proj.fullA X W r q = ((low 7168 x w r.val q.val : ℝ) : EReal) := by
  unfold Proj.fullA low
  rw [← Scan.sum_coe_mul]
  exact Finset.sum_congr rfl fun k _ => by rw [hX, hW]

/-- The second contraction of real numbers. -/
theorem fullB_real (X : FVec Ideal S2048x7168 .f32) (W : FVec Ideal S576x7168 .bf16) (x w : ℕ → ℕ → ℝ) (hX : ∀ i k, X (ix2 i k) = ((x i.val k.val : ℝ) : EReal))
    (hW : ∀ i k, W (ix2 i k) = ((w i.val k.val : ℝ) : EReal)) (r : Fin 2048) (q : Fin 576) : Proj.fullB X W r q = ((low 7168 x w r.val q.val : ℝ) : EReal) := by
  unfold Proj.fullB low
  rw [← Scan.sum_coe_mul]
  exact Finset.sum_congr rfl fun k _ => by rw [hX, hW]

variable {m c} (H : Real m c)

include H

/-- The first low-rank factor. -/
theorem fac (r : Fin 2048) (q : Fin 1536) : W4 m c (Proc.devRef .tc main_call1_v0_0) (ix2 r q)
    = ((low 7168 (r3 (m ((c.tc : Thread nD τ).loc main_arg0))) (r2 (m ((c.tc : Thread nD τ).loc main_arg1))) r.val q.val : ℝ) : EReal) := by
  refine (congrFun (Pipeline.afterRegion_arr (Proj.dat (fun c b => V3 m c (Proc.devRef .tc b)) c) (V3 m c) winFacts0.arr_inj 3) (ix2 r q)).trans ?_
  exact (Proj.arr_A (fun c b => V3 m c (Proc.devRef .tc b)) c (ix2 r q)).trans
    (fullA_real _ _ _ _ (fun i k => (Host.v0 m c i k).trans (r3_eq H.h0 i k)) (fun i k => (Host.v27 m c i k).trans (r2_eq H.h1 i k)) r q)

/-- The second low-rank factor. -/
theorem fbx (r : Fin 2048) (q : Fin 576) : W4 m c (Proc.devRef .tc main_call1_v0_1) (ix2 r q)
    = ((low 7168 (r3 (m ((c.tc : Thread nD τ).loc main_arg0))) (r2 (m ((c.tc : Thread nD τ).loc main_arg3))) r.val q.val : ℝ) : EReal) := by
  refine (congrFun (Pipeline.afterRegion_arr (Proj.dat (fun c b => V3 m c (Proc.devRef .tc b)) c) (V3 m c) winFacts0.arr_inj 4) (ix2 r q)).trans ?_
  exact (Proj.arr_B (fun c b => V3 m c (Proc.devRef .tc b)) c (ix2 r q)).trans
    (fullB_real _ _ _ _ (fun i k => (Host.v0 m c i k).trans (r3_eq H.h0 i k)) (fun i k => (Host.v28 m c i k).trans (r2_eq H.h3 i k)) r q)

/-- What the scan call reads. -/
theorem arrs : Ssd.Arrs (low 7168 (r3 (m ((c.tc : Thread nD τ).loc main_arg0))) (r2 (m ((c.tc : Thread nD τ).loc main_arg1))))
    (low 7168 (r3 (m ((c.tc : Thread nD τ).loc main_arg0))) (r2 (m ((c.tc : Thread nD τ).loc main_arg3))))
    (fun k q => r2 (m ((c.tc : Thread nD τ).loc main_arg2)) (k / 128 * 192 + k % 128) q)
    (fun k q => r2 (m ((c.tc : Thread nD τ).loc main_arg2)) (k / 64 * 192 + (128 + k % 64)) q)
    (fun k q => r2 (m ((c.tc : Thread nD τ).loc main_arg4)) (k / 128 * 256 + k % 128) q)
    (fun k q => r2 (m ((c.tc : Thread nD τ).loc main_arg4)) (k / 128 * 256 + (128 + k % 128)) q)
    (fun h => -Real.exp (r1 (m ((c.tc : Thread nD τ).loc main_arg5)) h))
    (W4 m c (Proc.devRef .tc main_call1_v0_0)) (W4 m c (Proc.devRef .tc main_call1_v0_1)) (W4 m c (Proc.devRef .tc main_v7)) (W4 m c (Proc.devRef .tc main_v10))
    (W4 m c (Proc.devRef .tc main_v14)) (W4 m c (Proc.devRef .tc main_v17)) (W4 m c (Proc.devRef .tc main_v3)) (W4 m c (Proc.devRef .tc main_v26)) where
  h0 := fac H
  h1 := fbx H
  h2 k q := (congrFun (W4_of m c main_v7 (by decide)) _).trans ((Host.v7 m c k q).trans (r2_eq H.h2 _ _))
  h3 k q := (congrFun (W4_of m c main_v10 (by decide)) _).trans ((Host.v10 m c k q).trans (r2_eq H.h2 _ _))
  h4 k q := (congrFun (W4_of m c main_v14 (by decide)) _).trans ((Host.v14 m c k q).trans (r2_eq H.h4 _ _))
  h5 k q := (congrFun (W4_of m c main_v17 (by decide)) _).trans ((Host.v17 m c k q).trans (r2_eq H.h4 _ _))
  h6 b h := (congrFun (W4_of m c main_v3 (by decide)) _).trans ((Host.v3 m c b h).trans (by rw [r1_eq H.h5, Ideal.exp_coe, ← EReal.coe_neg]))
  h7 h k := (congrFun (W4_of m c main_v26 (by decide)) _).trans (Host.v26 m c h k)

/-- The kernel's result. -/
theorem result (t : Fin 2048) (h p : Fin 128) : W6 m c (Proc.devRef .tc main_v30) (ix4 0 t h p)
    = ((Scan.Yf (low 7168 (r3 (m ((c.tc : Thread nD τ).loc main_arg0))) (r2 (m ((c.tc : Thread nD τ).loc main_arg1))))
      (low 7168 (r3 (m ((c.tc : Thread nD τ).loc main_arg0))) (r2 (m ((c.tc : Thread nD τ).loc main_arg3))))
      (fun k q => r2 (m ((c.tc : Thread nD τ).loc main_arg2)) (k / 128 * 192 + k % 128) q)
      (fun k q => r2 (m ((c.tc : Thread nD τ).loc main_arg2)) (k / 64 * 192 + (128 + k % 64)) q)
      (fun k q => r2 (m ((c.tc : Thread nD τ).loc main_arg4)) (k / 128 * 256 + k % 128) q)
      (fun k q => r2 (m ((c.tc : Thread nD τ).loc main_arg4)) (k / 128 * 256 + (128 + k % 128)) q)
      (fun h => -Real.exp (r1 (m ((c.tc : Thread nD τ).loc main_arg5)) h)) h.val t.val p.val : ℝ) : EReal) := by
  have e : W6 m c (Proc.devRef .tc main_v30) (ix4 0 t h p) = W5 m c (Proc.devRef .tc main_v29) (ix3 t h p) := by
    unfold W6 hostOps2
    after_results
    pointwise []
  rw [e]
  refine (congrFun (Pipeline.afterRegion_arr (Ssd.dat (fun c b => W4 m c (Proc.devRef .tc b)) c) (W4 m c) winFacts1.arr_inj 8) (ix3 t h p)).trans ?_
  exact Ssd.arr_real (fun c b => W4 m c (Proc.devRef .tc b)) (arrs H) (fun K => neg_nonpos.mpr (Real.exp_pos _).le) (ix3 t h p)

end Cert.KernelIdeal.Result

end
-- ==== Proof.ReferenceIdeal.Stages.lean ====
/-
  The reference's result as a composition of named stages, each a few of its operations over variables.
-/
module

public import proofs.«01_k».proof.Proof.Gen.ReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen

/-- The scalar zero. -/
def zf : FVec Ideal S_ .f32 := constant S_ .f32 0x00000000#32

/-- The first low-rank factor. -/
def fac (x : FVec Ideal S1x2048x7168 .f32) (w : FVec Ideal S1536x7168 .f32) : FVec Ideal S1x2048x1536 .f32 :=
  Host.dotGeneral dot_S1x2048x7168_S7168x1536_S1x2048x1536_2_0_01_1_n_n none x (transpose S7168x1536 [1, 0] w transposes_S1536x7168_S7168x1536_1_0)

/-- The second low-rank factor. -/
def fbx (x : FVec Ideal S1x2048x7168 .f32) (w : FVec Ideal S576x7168 .f32) : FVec Ideal S1x2048x576 .f32 :=
  Host.dotGeneral dot_S1x2048x7168_S7168x576_S1x2048x576_2_0_01_1_n_n none x (transpose S7168x576 [1, 0] w transposes_S576x7168_S7168x576_1_0)

/-- The first projection, split by head. -/
def pc (a : FVec Ideal S1x2048x1536 .f32) (w : FVec Ideal S24576x1536 .f32) : FVec Ideal S1x2048x128x192 .f32 :=
  shapeCast _ (Host.dotGeneral dot_S1x2048x1536_S1536x24576_S1x2048x24576_2_0_01_1_n_n none a (transpose S1536x24576 [1, 0] w transposes_S24576x1536_S1536x24576_1_0)) shapeCasts_S1x2048x24576_S1x2048x128x192

/-- The second projection, split by head. -/
def pbx (b : FVec Ideal S1x2048x576 .f32) (w : FVec Ideal S32768x512 .f32) : FVec Ideal S1x2048x128x256 .f32 :=
  shapeCast _ (Host.dotGeneral dot_S1x2048x512_S512x32768_S1x2048x32768_2_0_01_1_n_n none (extractStridedSlice S1x2048x512 ![0, 0, 0] b slices_S1x2048x576_S1x2048x512_0_0_0) (transpose S512x32768 [1, 0] w transposes_S32768x512_S512x32768_1_0)) shapeCasts_S1x2048x32768_S1x2048x128x256

/-- C. -/
def cc (p : FVec Ideal S1x2048x128x192 .f32) : FVec Ideal S1x2048x128x128 .f32 := extractStridedSlice S1x2048x128x128 ![0, 0, 0, 0] p slices_S1x2048x128x192_S1x2048x128x128_0_0_0_0

/-- B. -/
def bb (p : FVec Ideal S1x2048x128x256 .f32) : FVec Ideal S1x2048x128x128 .f32 := extractStridedSlice S1x2048x128x128 ![0, 0, 0, 0] p slices_S1x2048x128x256_S1x2048x128x128_0_0_0_0

/-- X. -/
def xx (p : FVec Ideal S1x2048x128x256 .f32) : FVec Ideal S1x2048x128x128 .f32 := extractStridedSlice S1x2048x128x128 ![0, 0, 0, 128] p slices_S1x2048x128x256_S1x2048x128x128_0_0_0_128

/-- What softplus is applied to. -/
def zz (p : FVec Ideal S1x2048x128x192 .f32) (b : FVec Ideal S1x2048x576 .f32) : FVec Ideal S1x2048x128 .f32 :=
  Host.dotGeneral dot_S1x2048x128x64_S1x2048x64_S1x2048x128_3_2_2_n_01_01 none (extractStridedSlice S1x2048x128x64 ![0, 0, 0, 128] p slices_S1x2048x128x192_S1x2048x128x64_0_0_0_128)
    (extractStridedSlice S1x2048x64 ![0, 0, 512] b slices_S1x2048x576_S1x2048x64_0_0_512)

/-- The step sizes: softplus. -/
def dt (z : FVec Ideal S1x2048x128 .f32) : FVec Ideal S1x2048x128 .f32 :=
  select (cmpf .une (subf z (broadcastInDim S1x2048x128 ![] bcast_S_S1x2048x128 zf)) (subf z (broadcastInDim S1x2048x128 ![] bcast_S_S1x2048x128 zf)))
    (addf z (broadcastInDim S1x2048x128 ![] bcast_S_S1x2048x128 zf))
    (addf (maximumf z (broadcastInDim S1x2048x128 ![] bcast_S_S1x2048x128 zf))
      (Host.log1p (Host.exp (Host.negf (Host.absf (subf z (broadcastInDim S1x2048x128 ![] bcast_S_S1x2048x128 zf)))))))

/-- The decrements, by chunk, head and row. -/
def dac (d : FVec Ideal S1x2048x128 .f32) (al : FVec Ideal S128 .f32) : FVec Ideal S1x32x128x64 .f32 :=
  transpose S1x32x128x64 [0, 1, 3, 2] (shapeCast S1x32x64x128 (mulf d (broadcastInDim S1x2048x128 ![0, 1, 2] bcast_S1x1x128_S1x2048x128_0_1_2
    (broadcastInDim S1x1x128 ![2] bcast_S128_S1x1x128_2 (Host.negf (Host.exp al))))) shapeCasts_S1x2048x128_S1x32x64x128) transposes_S1x32x64x128_S1x32x128x64_0_1_3_2

/-- X times the step size. -/
def xd (x : FVec Ideal S1x2048x128x128 .f32) (d : FVec Ideal S1x2048x128 .f32) : FVec Ideal S1x2048x128x128 .f32 :=
  mulf x (broadcastInDim S1x2048x128x128 ![0, 1, 2, 3] bcast_S1x2048x128x1_S1x2048x128x128_0_1_2_3 (broadcastInDim S1x2048x128x1 ![0, 1, 2] bcast_S1x2048x128_S1x2048x128x1_0_1_2 d))

/-- Rows split into chunks. -/
def ch (x : FVec Ideal S1x2048x128x128 .f32) : FVec Ideal S1x32x64x128x128 .f32 := shapeCast S1x32x64x128x128 x shapeCasts_S1x2048x128x128_S1x32x64x128x128

/-- The cumulative sums within the chunks. -/
def acs (a : FVec Ideal S1x32x128x64 .f32) : FVec Ideal S1x32x128x64 .f32 :=
  Host.reduceWindowAdd ![1, 1, 1, 64] ![1, 1, 1, 1] ![0, 0, 0, 63] ![0, 0, 0, 0] a (broadcastInDim S_ ![] bcast_S_S_ zf) reduceWindows_S1x32x128x64_S1x32x128x64_w1s1p0_0_w1s1p0_0_w1s1p0_0_w64s1p63_0 h_S_

/-- The causal mask of a chunk. -/
def mask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The decays between the rows of a chunk. -/
def lmat (s : FVec Ideal S1x32x128x64 .f32) : FVec Ideal S1x32x128x64x64 .f32 :=
  select (broadcastInDim S1x32x128x64x64 ![3, 4] bcast_S64x64_S1x32x128x64x64_3_4 mask)
    (Host.exp (select (broadcastInDim S1x32x128x64x64 ![3, 4] bcast_S64x64_S1x32x128x64x64_3_4 mask)
      (subf (broadcastInDim S1x32x128x64x64 ![0, 1, 2, 3, 4] bcast_S1x32x128x64x1_S1x32x128x64x64_0_1_2_3_4 (broadcastInDim S1x32x128x64x1 ![0, 1, 2, 3] bcast_S1x32x128x64_S1x32x128x64x1_0_1_2_3 s))
        (broadcastInDim S1x32x128x64x64 ![0, 1, 2, 3, 4] bcast_S1x32x128x1x64_S1x32x128x64x64_0_1_2_3_4 (broadcastInDim S1x32x128x1x64 ![0, 1, 2, 4] bcast_S1x32x128x64_S1x32x128x1x64_0_1_2_4 s)))
      (broadcastInDim S1x32x128x64x64 ![] bcast_S_S1x32x128x64x64 zf)))
    (broadcastInDim S1x32x128x64x64 ![] bcast_S_S1x32x128x64x64 zf)

/-- A chunk's own contribution to its output. -/
def ydiag (x b c : FVec Ideal S1x32x64x128x128 .f32) (l : FVec Ideal S1x32x128x64x64 .f32) : FVec Ideal S1x32x64x128x128 .f32 :=
  transpose S1x32x64x128x128 [0, 1, 4, 2, 3] (Host.dotGeneral dot_S1x32x64x128x128_S1x32x128x64x64_S1x32x128x128x64_2_4_4_3_013_012 none x
    (mulf (Host.dotGeneral dot_S1x32x64x128x128_S1x32x64x128x128_S1x32x128x64x64_4_4_2_2_013_013 none c b) l)) transposes_S1x32x128x128x64_S1x32x64x128x128_0_1_4_2_3

/-- The decay from a row to the end of its chunk. -/
def dend (s : FVec Ideal S1x32x128x64 .f32) : FVec Ideal S1x32x128x64 .f32 :=
  Host.exp (subf (broadcastInDim S1x32x128x64 ![0, 1, 2, 3] bcast_S1x32x128x1_S1x32x128x64_0_1_2_3 (extractStridedSlice S1x32x128x1 ![0, 0, 0, 63] s slices_S1x32x128x64_S1x32x128x1_0_0_0_63)) s)

/-- What each chunk adds to the state. -/
def sts (x b : FVec Ideal S1x32x64x128x128 .f32) (e : FVec Ideal S1x32x128x64 .f32) : FVec Ideal S1x32x128x128x128 .f32 :=
  Host.dotGeneral dot_S1x32x64x128x128_S1x32x64x128x128_S1x32x128x128x128_2_2_4_4_013_013 none
    (mulf b (broadcastInDim S1x32x64x128x128 ![0, 1, 2, 3, 4] bcast_S1x32x64x128x1_S1x32x64x128x128_0_1_2_3_4 (broadcastInDim S1x32x64x128x1 ![0, 1, 2, 3] bcast_S1x32x64x128_S1x32x64x128x1_0_1_2_3
      (transpose S1x32x64x128 [0, 1, 3, 2] e transposes_S1x32x128x64_S1x32x64x128_0_1_3_2)))) x

/-- The same after a zero. -/
def sts0 (s : FVec Ideal S1x32x128x128x128 .f32) : FVec Ideal S1x33x128x128x128 .f32 :=
  Value.fn_main_v57 (F := Ideal) (broadcastInDim S1x1x128x128x128 ![] bcast_S_S1x1x128x128x128 zf) s

/-- The totals of the chunks after a zero. -/
def tot0 (s : FVec Ideal S1x32x128x64 .f32) : FVec Ideal S1x128x33 .f32 :=
  pad S1x128x33 ![0, 0, 1] ![0, 0, 0] ![0, 0, 0] (transpose S1x128x32 [0, 2, 1] (shapeCast S1x32x128 (extractStridedSlice S1x32x128x1 ![0, 0, 0, 63] s slices_S1x32x128x64_S1x32x128x1_0_0_0_63) shapeCasts_S1x32x128x1_S1x32x128) transposes_S1x32x128_S1x128x32_0_2_1)
    (sitofp (F := Ideal) .f32 (constantI S_ 32 0#32)) pads_S1x128x32_S1x128x33_000_000_100 h_S_

/-- The cumulative sums of the totals. -/
def pcs (p : FVec Ideal S1x128x33 .f32) : FVec Ideal S1x128x33 .f32 :=
  Host.reduceWindowAdd ![1, 1, 33] ![1, 1, 1] ![0, 0, 32] ![0, 0, 0] p (broadcastInDim S_ ![] bcast_S_S_ zf) reduceWindows_S1x128x33_S1x128x33_w1s1p0_0_w1s1p0_0_w33s1p32_0 h_S_

/-- The causal mask of the chunks. -/
def mask33 : IVec S33x33 1 :=
  select (cmpi .sge (addi (iotaInDim S33x33 32 0) (broadcastInDim S33x33 ![] bcast_S_S33x33 (constantI S_ 32 0#32))) (iotaInDim S33x33 32 1))
    (broadcastInDim S33x33 ![] bcast_S_S33x33 (constantI S_ 1 1#1)) (broadcastInDim S33x33 ![] bcast_S_S33x33 (constantI S_ 1 0#1))

/-- The decays between the chunks. -/
def dchunk (p : FVec Ideal S1x128x33 .f32) : FVec Ideal S1x128x33x33 .f32 :=
  select (broadcastInDim S1x128x33x33 ![2, 3] bcast_S33x33_S1x128x33x33_2_3 mask33)
    (Host.exp (select (broadcastInDim S1x128x33x33 ![2, 3] bcast_S33x33_S1x128x33x33_2_3 mask33)
      (subf (broadcastInDim S1x128x33x33 ![0, 1, 2, 3] bcast_S1x128x33x1_S1x128x33x33_0_1_2_3 (broadcastInDim S1x128x33x1 ![0, 1, 2] bcast_S1x128x33_S1x128x33x1_0_1_2 p))
        (broadcastInDim S1x128x33x33 ![0, 1, 2, 3] bcast_S1x128x1x33_S1x128x33x33_0_1_2_3 (broadcastInDim S1x128x1x33 ![0, 1, 3] bcast_S1x128x33_S1x128x1x33_0_1_3 p)))
      (broadcastInDim S1x128x33x33 ![] bcast_S_S1x128x33x33 zf)))
    (broadcastInDim S1x128x33x33 ![] bcast_S_S1x128x33x33 zf)

/-- The state before each chunk. -/
def prev (s : FVec Ideal S1x33x128x128x128 .f32) (d : FVec Ideal S1x128x33x33 .f32) : FVec Ideal S1x32x128x128x128 .f32 :=
  extractStridedSlice S1x32x128x128x128 ![0, 0, 0, 0, 0] (transpose S1x33x128x128x128 [0, 4, 1, 2, 3] (Host.dotGeneral dot_S1x33x128x128x128_S1x128x33x33_S1x128x128x128x33_1_3_34_2_02_01 none s d)
    transposes_S1x128x128x128x33_S1x33x128x128x128_0_4_1_2_3) slices_S1x33x128x128x128_S1x32x128x128x128_0_0_0_0_0

/-- The carried state's contribution to the output. -/
def yoff (p : FVec Ideal S1x32x128x128x128 .f32) (c : FVec Ideal S1x32x64x128x128 .f32) (s : FVec Ideal S1x32x128x64 .f32) : FVec Ideal S1x32x64x128x128 .f32 :=
  mulf (transpose S1x32x64x128x128 [0, 1, 4, 2, 3] (Host.dotGeneral dot_S1x32x128x128x128_S1x32x64x128x128_S1x32x128x128x64_3_4_4_2_012_013 none p c) transposes_S1x32x128x128x64_S1x32x64x128x128_0_1_4_2_3)
    (broadcastInDim S1x32x64x128x128 ![0, 1, 2, 3, 4] bcast_S1x32x64x128x1_S1x32x64x128x128_0_1_2_3_4 (broadcastInDim S1x32x64x128x1 ![0, 1, 2, 3] bcast_S1x32x64x128_S1x32x64x128x1_0_1_2_3
      (transpose S1x32x64x128 [0, 1, 3, 2] (Host.exp s) transposes_S1x32x128x64_S1x32x64x128_0_1_3_2)))

/-- The whole result, rows joined again. -/
def out (d o : FVec Ideal S1x32x64x128x128 .f32) : FVec Ideal S1x2048x128x128 .f32 := shapeCast S1x2048x128x128 (addf d o) shapeCasts_S1x32x64x128x128_S1x2048x128x128

/-- From the scan's inputs to the result. -/
def scan (x b c : FVec Ideal S1x32x64x128x128 .f32) (s : FVec Ideal S1x32x128x64 .f32) : FVec Ideal S1x2048x128x128 .f32 :=
  out (ydiag x b c (lmat s)) (yoff (prev (sts0 (sts x b (dend s))) (dchunk (pcs (tot0 s)))) c s)

/-- From the two factors to the result. -/
def top (a : FVec Ideal S1x2048x1536 .f32) (b : FVec Ideal S1x2048x576 .f32) (wc : FVec Ideal S24576x1536 .f32) (wb : FVec Ideal S32768x512 .f32) (al : FVec Ideal S128 .f32) : FVec Ideal S1x2048x128x128 .f32 :=
  scan (ch (xd (xx (pbx b wb)) (dt (zz (pc a wc) b)))) (ch (bb (pbx b wb))) (ch (cc (pc a wc))) (acs (dac (dt (zz (pc a wc) b)) al))

set_option maxHeartbeats 4000000 in
/-- The reference's result is this composition at its arguments. -/
theorem res_eq (m : (ℓ : Loc nD τ sig) → Buf (Elt Ideal) ℓ) (c : Dev nD) :
    Value.res_out0 m c = top (fac (m ((c.tc : Thread nD τ).loc main_arg0)) (m ((c.tc : Thread nD τ).loc main_arg1))) (fbx (m ((c.tc : Thread nD τ).loc main_arg0)) (m ((c.tc : Thread nD τ).loc main_arg3)))
      (m ((c.tc : Thread nD τ).loc main_arg2)) (m ((c.tc : Thread nD τ).loc main_arg4)) (m ((c.tc : Thread nD τ).loc main_arg5)) := by
  rfl

end Cert.ReferenceIdeal.Stages

end
-- ==== Proof.ReferenceIdeal.Terms.lean ====
/-
  The stages of the reference, each read at an index.
-/
module

public import proofs.«01_k».proof.Proof.ReferenceIdeal.Stages
public import proofs.«01_k».proof.Proof.Value.Model
public import Idealize.ShloMosaic.Lib.WordCmp

@[expose] public section

set_option maxRecDepth 16384

noncomputable section

open Idealize.ShloMosaic Idealize.ShloMosaic.TcCoe Idealize.ShloMosaic.WordCmp Idealize.SL.Sem

namespace Cert.ReferenceIdeal.Stages

open Cert.ReferenceIdeal Cert.ReferenceIdeal.Gen

theorem fac_apply (x : FVec Ideal S1x2048x7168 .f32) (w : FVec Ideal S1536x7168 .f32) (t : Fin 2048) (r : Fin 1536) :
    fac x w (ix3 0 t r) = ∑ k : Fin 7168, x (ix3 0 t k) * w (ix2 r k) := by
  unfold fac
  pointwise []

theorem fbx_apply (x : FVec Ideal S1x2048x7168 .f32) (w : FVec Ideal S576x7168 .f32) (t : Fin 2048) (r : Fin 576) :
    fbx x w (ix3 0 t r) = ∑ k : Fin 7168, x (ix3 0 t k) * w (ix2 r k) := by
  unfold fbx
  pointwise []

theorem pc_apply (a : FVec Ideal S1x2048x1536 .f32) (w : FVec Ideal S24576x1536 .f32) (t : Fin 2048) (h : Fin 128) (n : Fin 192) :
    pc a w (ix4 0 t h n) = ∑ m : Fin 1536, a (ix3 0 t m) * w (ix2 ⟨h.val * 192 + n.val, by omega⟩ m) := by
  unfold pc
  pointwise []

theorem pbx_apply (b : FVec Ideal S1x2048x576 .f32) (w : FVec Ideal S32768x512 .f32) (t : Fin 2048) (h : Fin 128) (n : Fin 256) :
    pbx b w (ix4 0 t h n) = ∑ m : Fin 512, b (ix3 0 t ⟨m.val, by omega⟩) * w (ix2 ⟨h.val * 256 + n.val, by omega⟩ m) := by
  unfold pbx
  pointwise []

theorem cc_apply (p : FVec Ideal S1x2048x128x192 .f32) (t : Fin 2048) (h n : Fin 128) : cc p (ix4 0 t h n) = p (ix4 0 t h ⟨n.val, by omega⟩) := by
  unfold cc
  pointwise []

theorem bb_apply (p : FVec Ideal S1x2048x128x256 .f32) (t : Fin 2048) (h n : Fin 128) : bb p (ix4 0 t h n) = p (ix4 0 t h ⟨n.val, by omega⟩) := by
  unfold bb
  pointwise []

theorem xx_apply (p : FVec Ideal S1x2048x128x256 .f32) (t : Fin 2048) (h n : Fin 128) : xx p (ix4 0 t h n) = p (ix4 0 t h ⟨128 + n.val, by omega⟩) := by
  unfold xx
  pointwise []

theorem zz_apply (p : FVec Ideal S1x2048x128x192 .f32) (b : FVec Ideal S1x2048x576 .f32) (t : Fin 2048) (h : Fin 128) :
    zz p b (ix3 0 t h) = ∑ d : Fin 64, p (ix4 0 t h ⟨128 + d.val, by omega⟩) * b (ix3 0 t ⟨512 + d.val, by omega⟩) := by
  unfold zz
  pointwise []

/-- Softplus of a real. -/
theorem dt_apply (z : FVec Ideal S1x2048x128 .f32) (i) (r : ℝ) (hz : z i = (r : EReal)) : dt z i = ((Scan.spR r : ℝ) : EReal) := by
  unfold dt zf
  pointwise []
  rw [hz, if_neg (by simp)]
  exact Scan.sp_coe r

theorem dac_apply (d : FVec Ideal S1x2048x128 .f32) (al : FVec Ideal S128 .f32) (z : Fin 32) (h : Fin 128) (l : Fin 64) :
    dac d al (ix4 0 z h l) = d (ix3 0 ⟨z.val * 64 + l.val, by omega⟩ h) * (-(Ideal.exp (al (ix1 h)))) := by
  unfold dac
  pointwise []

theorem xd_apply (x : FVec Ideal S1x2048x128x128 .f32) (d : FVec Ideal S1x2048x128 .f32) (t : Fin 2048) (h p : Fin 128) :
    xd x d (ix4 0 t h p) = x (ix4 0 t h p) * d (ix3 0 t h) := by
  unfold xd
  pointwise []

theorem ch_apply (x : FVec Ideal S1x2048x128x128 .f32) (z : Fin 32) (l : Fin 64) (h p : Fin 128) :
    ch x (ix5 0 z l h p) = x (ix4 0 ⟨z.val * 64 + l.val, by omega⟩ h p) := by
  unfold ch
  pointwise []

/-- The comparison of two row numbers. -/
theorem ge_apply {N : ℕ} (hN : N ≤ 64) (r s : Fin N) : IntOp.cmpi CmpIPredicate.sge (BitVec.ofNat 32 r.val) (BitVec.ofNat 32 s.val) = if s.val ≤ r.val then 1#1 else 0#1 := by
  rw [cmpi_sge_ofNat (by omega) (by omega)]
  by_cases h : s.val ≤ r.val <;> simp [h]

theorem mask_apply (r s : Fin 64) : mask (ix2 r s) = if s.val ≤ r.val then 1#1 else 0#1 := by
  unfold mask
  pointwise []
  rw [show IntOp.addi (BitVec.ofNat 32 r.val) 0#32 = BitVec.ofNat 32 r.val from BitVec.add_zero _, ge_apply (by omega)]
  by_cases h : s.val ≤ r.val
  · rw [if_pos h]; rfl
  · rw [if_neg h]; rfl

theorem mask33_apply (r s : Fin 33) : mask33 (ix2 r s) = if s.val ≤ r.val then 1#1 else 0#1 := by
  unfold mask33
  pointwise []
  rw [show IntOp.addi (BitVec.ofNat 32 r.val) 0#32 = BitVec.ofNat 32 r.val from BitVec.add_zero _, ge_apply (by omega)]
  by_cases h : s.val ≤ r.val
  · rw [if_pos h]; rfl
  · rw [if_neg h]; rfl

theorem lmat_apply (s : FVec Ideal S1x32x128x64 .f32) (z : Fin 32) (h : Fin 128) (l k : Fin 64) :
    lmat s (ix5 0 z h l k) = if k.val ≤ l.val then Ideal.exp (s (ix4 0 z h l) - s (ix4 0 z h k)) else 0 := by
  unfold lmat zf
  have hm := mask_apply l k
  generalize mask = M at *
  pointwise []
  rw [hm]
  by_cases h : k.val ≤ l.val
  · rw [if_pos h, if_pos h]; rfl
  · rw [if_neg h, if_neg h]; rfl

theorem ydiag_apply (x b c : FVec Ideal S1x32x64x128x128 .f32) (lm : FVec Ideal S1x32x128x64x64 .f32) (z : Fin 32) (l : Fin 64) (h p : Fin 128) :
    ydiag x b c lm (ix5 0 z l h p) = ∑ s : Fin 64, x (ix5 0 z s h p) * ((∑ n : Fin 128, c (ix5 0 z l h n) * b (ix5 0 z s h n)) * lm (ix5 0 z h l s)) := by
  unfold ydiag
  pointwise []

theorem dend_apply (s : FVec Ideal S1x32x128x64 .f32) (z : Fin 32) (h : Fin 128) (l : Fin 64) :
    dend s (ix4 0 z h l) = Ideal.exp (s (ix4 0 z h 63) - s (ix4 0 z h l)) := by
  unfold dend
  pointwise []

theorem sts_apply (x b : FVec Ideal S1x32x64x128x128 .f32) (e : FVec Ideal S1x32x128x64 .f32) (z : Fin 32) (h n p : Fin 128) :
    sts x b e (ix5 0 z h n p) = ∑ l : Fin 64, (b (ix5 0 z l h n) * e (ix4 0 z h l)) * x (ix5 0 z l h p) := by
  unfold sts
  pointwise []

theorem sts0_apply (s : FVec Ideal S1x32x128x128x128 .f32) (z : Fin 33) (h n p : Fin 128) :
    sts0 s (ix5 0 z h n p) = if hz : z.val = 0 then 0 else s (ix5 0 ⟨z.val - 1, by omega⟩ h n p) := by
  unfold sts0 zf Value.fn_main_v57
  pointwise []
  by_cases hz : z.val = 0
  · rw [dif_pos (by omega), dif_pos hz]
  · rw [dif_neg (by omega), dif_neg hz]

theorem tot0_apply (s : FVec Ideal S1x32x128x64 .f32) (h : Fin 128) (z : Fin 33) :
    tot0 s (ix3 0 h z) = if hz : z.val = 0 then 0 else s (ix4 0 ⟨z.val - 1, by omega⟩ h 63) := by
  unfold tot0
  pointwise []
  by_cases hz : z.val = 0
  · rw [dif_neg (by omega), dif_pos hz]
    show (((0#32 : BitVec 32).toInt : ℝ) : EReal) = 0
    simp
  · rw [dif_pos (by omega), dif_neg hz]

theorem dchunk_apply (s : FVec Ideal S1x128x33 .f32) (h : Fin 128) (l k : Fin 33) :
    dchunk s (ix4 0 h l k) = if k.val ≤ l.val then Ideal.exp (s (ix3 0 h l) - s (ix3 0 h k)) else 0 := by
  unfold dchunk zf
  have hm := mask33_apply l k
  generalize mask33 = M at *
  pointwise []
  rw [hm]
  by_cases h : k.val ≤ l.val
  · rw [if_pos h, if_pos h]; rfl
  · rw [if_neg h, if_neg h]; rfl

theorem prev_apply (s : FVec Ideal S1x33x128x128x128 .f32) (d : FVec Ideal S1x128x33x33 .f32) (z : Fin 32) (h n p : Fin 128) :
    prev s d (ix5 0 z h n p) = ∑ k : Fin 33, s (ix5 0 k h n p) * d (ix4 0 h ⟨z.val, by omega⟩ k) := by
  unfold prev
  pointwise []

theorem yoff_apply (q : FVec Ideal S1x32x128x128x128 .f32) (c : FVec Ideal S1x32x64x128x128 .f32) (s : FVec Ideal S1x32x128x64 .f32) (z : Fin 32) (l : Fin 64) (h p : Fin 128) :
    yoff q c s (ix5 0 z l h p) = (∑ n : Fin 128, q (ix5 0 z h n p) * c (ix5 0 z l h n)) * Ideal.exp (s (ix4 0 z h l)) := by
  unfold yoff
  pointwise []

theorem out_apply (d o : FVec Ideal S1x32x64x128x128 .f32) (t : Fin 2048) (h p : Fin 128) :
    out d o (ix4 0 t h p) = d (ix5 0 ⟨t.val / 64, by omega⟩ ⟨t.val % 64, by omega⟩ h p) + o (ix5 0 ⟨t.val / 64, by omega⟩ ⟨t.val % 64, by omega⟩ h p) := by
  unfold out
  pointwise []

/-- A left fold of sums is the sum. -/
theorem foldl_sum {ι : Type} (l : List ι) (g : ι → EReal) (v : EReal) : l.foldl (fun r n => r + g n) v = v + (l.map g).sum := by
  induction l generalizing v with
  | nil => simp
  | cons i l ih => rw [List.foldl_cons, ih, List.map_cons, List.sum_cons, add_assoc]

/-- The window sum of a sequence padded below is its cumulative sum. -/
theorem window_sum (N l : ℕ) (hl : l ≤ N) (f : ℕ → ℝ) : ∑ k : Fin (N + 1), (if N ≤ l + k.val then f (l + k.val - N) else 0) = ∑ k ∈ Finset.range (l + 1), f k := by
  rw [Fin.sum_univ_eq_sum_range (fun k => if N ≤ l + k then f (l + k - N) else 0), show N + 1 = (N - l) + (l + 1) by omega, Finset.sum_range_add,
    Finset.sum_eq_zero fun k hk => if_neg (by have := Finset.mem_range.mp hk; omega), zero_add]
  exact Finset.sum_congr rfl fun k _ => by rw [if_pos (by omega)]; congr 1; omega

/-- A fold over a window's places is the sum over the window. -/
theorem window_fold {W : Shape} (g : W.Idx → EReal) (v : EReal) :
    (List.finRange W.numel).foldl (fun r n => r + g (W.rowMajor.symm n)) v = v + ∑ w : W.Idx, g w := by
  rw [foldl_sum, ← Fin.sum_univ_def, Equiv.sum_comp W.rowMajor.symm g]

/-- A padded window sum at a place. -/
theorem window_add {s t : Shape} (window strides lo hi : Fin s.rank → Nat) (h : s.ReduceWindows window strides lo hi t) (x : s.Idx → EReal) (v : EReal) (j : t.Idx) :
    Host.reduceWindow (u := ⟨0, ![]⟩) (· + ·) window strides lo hi x (fun _ => v) h (by decide) j
      = v + ∑ w : (⟨s.rank, window⟩ : Shape).Idx,
          (if hin : ∀ a, lo a ≤ (j (a.cast h.1.symm)).val * strides a + (w a).val ∧ (j (a.cast h.1.symm)).val * strides a + (w a).val - lo a < s.size a
            then x (fun a => ⟨(j (a.cast h.1.symm)).val * strides a + (w a).val - lo a, (hin a).2⟩) else v) := by
  refine Eq.trans ?_ (window_fold (W := ⟨s.rank, window⟩) (fun w => (if hin : ∀ a, lo a ≤ (j (a.cast h.1.symm)).val * strides a + (w a).val ∧ (j (a.cast h.1.symm)).val * strides a + (w a).val - lo a < s.size a
            then x (fun a => ⟨(j (a.cast h.1.symm)).val * strides a + (w a).val - lo a, (hin a).2⟩) else v)) v)
  unfold Host.reduceWindow
  dsimp only
  congr!

/-- The sums' start. -/
theorem start_zero : broadcastInDim S_ ![] bcast_S_S_ zf (Shape.Idx.first h_S_) = (0 : EReal) := by
  unfold zf
  pointwise []

/-- The cumulative sum along a chunk. -/
theorem acs_apply (a : FVec Ideal S1x32x128x64 .f32) (f : ℕ → ℝ) (z : Fin 32) (h : Fin 128) (hf : ∀ l : Fin 64, a (ix4 0 z h l) = ((f l.val : ℝ) : EReal)) (l : Fin 64) :
    acs a (ix4 0 z h l) = ((∑ k ∈ Finset.range (l.val + 1), f k : ℝ) : EReal) := by
  have hl := l.isLt
  unfold acs Host.reduceWindowAdd
  rw [start_zero]
  refine (window_add ![1, 1, 1, 64] ![1, 1, 1, 1] ![0, 0, 0, 63] ![0, 0, 0, 0] reduceWindows_S1x32x128x64_S1x32x128x64_w1s1p0_0_w1s1p0_0_w1s1p0_0_w64s1p63_0 a (0 : EReal) (ix4 0 z h l)).trans ?_
  rw [zero_add]
  refine (sum_idx4 (M := EReal) (n0 := 1) (n1 := 1) (n2 := 1) (n3 := 64) _).trans ?_
  rw [Fin.sum_univ_one, Fin.sum_univ_one, Fin.sum_univ_one, ← window_sum 63 l.val (by omega) f, Scan.coe_sum]
  refine Finset.sum_congr rfl fun e _ => ?_
  have he := e.isLt
  by_cases h63 : 63 ≤ l.val + e.val
  · rw [if_pos h63]
    refine (dif_pos (fun b => ?_)).trans ((congrArg a (funext fun b => Fin.ext ?_)).trans (hf ⟨l.val + e.val - 63, by omega⟩))
    · match b with
      | ⟨0, _⟩ => exact ⟨Nat.zero_le _, by show 0 * 1 + 0 - 0 < 1; omega⟩
      | ⟨1, _⟩ => exact ⟨Nat.zero_le _, by show z.val * 1 + 0 - 0 < 32; omega⟩
      | ⟨2, _⟩ => exact ⟨Nat.zero_le _, by show h.val * 1 + 0 - 0 < 128; omega⟩
      | ⟨3, _⟩ => exact ⟨by show 63 ≤ l.val * 1 + e.val; omega, by show l.val * 1 + e.val - 63 < 64; omega⟩
    · match b with
      | ⟨0, _⟩ => rfl
      | ⟨1, _⟩ => show z.val * 1 + 0 - 0 = z.val; omega
      | ⟨2, _⟩ => show h.val * 1 + 0 - 0 = h.val; omega
      | ⟨3, _⟩ => show l.val * 1 + e.val - 63 = l.val + e.val - 63; omega
  · rw [if_neg h63]
    refine dif_neg fun hin => h63 ?_
    have h3 : 63 ≤ l.val * 1 + e.val := (hin (3 : Fin 4)).1
    omega

/-- The cumulative sum along the chunks. -/
theorem pcs_apply (a : FVec Ideal S1x128x33 .f32) (f : ℕ → ℝ) (h : Fin 128) (hf : ∀ l : Fin 33, a (ix3 0 h l) = ((f l.val : ℝ) : EReal)) (l : Fin 33) :
    pcs a (ix3 0 h l) = ((∑ k ∈ Finset.range (l.val + 1), f k : ℝ) : EReal) := by
  have hl := l.isLt
  unfold pcs Host.reduceWindowAdd
  rw [start_zero]
  refine (window_add ![1, 1, 33] ![1, 1, 1] ![0, 0, 32] ![0, 0, 0] reduceWindows_S1x128x33_S1x128x33_w1s1p0_0_w1s1p0_0_w33s1p32_0 a (0 : EReal) (ix3 0 h l)).trans ?_
  rw [zero_add]
  refine (sum_idx3 (M := EReal) (n0 := 1) (n1 := 1) (n2 := 33) _).trans ?_
  rw [Fin.sum_univ_one, Fin.sum_univ_one, ← window_sum 32 l.val (by omega) f, Scan.coe_sum]
  refine Finset.sum_congr rfl fun e _ => ?_
  have he := e.isLt
  by_cases h32 : 32 ≤ l.val + e.val
  · rw [if_pos h32]
    refine (dif_pos (fun b => ?_)).trans ((congrArg a (funext fun b => Fin.ext ?_)).trans (hf ⟨l.val + e.val - 32, by omega⟩))
    · match b with
      | ⟨0, _⟩ => exact ⟨Nat.zero_le _, by show 0 * 1 + 0 - 0 < 1; omega⟩
      | ⟨1, _⟩ => exact ⟨Nat.zero_le _, by show h.val * 1 + 0 - 0 < 128; omega⟩
      | ⟨2, _⟩ => exact ⟨by show 32 ≤ l.val * 1 + e.val; omega, by show l.val * 1 + e.val - 32 < 33; omega⟩
    · match b with
      | ⟨0, _⟩ => rfl
      | ⟨1, _⟩ => show h.val * 1 + 0 - 0 = h.val; omega
      | ⟨2, _⟩ => show l.val * 1 + e.val - 32 = l.val + e.val - 32; omega
  · rw [if_neg h32]
    refine dif_neg fun hin => h32 ?_
    have h3 : 32 ≤ l.val * 1 + e.val := (hin (2 : Fin 3)).1
    omega

end Cert.ReferenceIdeal.Stages

end
-- ==== Proof.ReferenceIdeal.Scan.lean ====
/-
  The reference over real numbers: the chunked scan gives the closed form of the state-space scan, row by row.
-/
module

public import proofs.«01_k».proof.Proof.ReferenceIdeal.Terms

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen

/-- The chunk totals, the empty one first, add up to the cumulative sum at the chunks' bounds. -/
theorem totals (dA : ℕ → ℝ) (z : ℕ) :
    ∑ k ∈ Finset.range (z + 1), (if k = 0 then 0 else Scan.Dp dA (64 * k) - Scan.Dp dA (64 * (k - 1))) = Scan.Dp dA (64 * z) := by
  induction z with
  | zero => simp [Scan.Dp]
  | succ z ih => rw [Finset.sum_range_succ, ih, if_neg (Nat.succ_ne_zero z), Nat.add_sub_cancel]; ring

/-- The sum over the chunk bounds before chunk `z`. -/
theorem bounds_sum (S : ℕ → ℝ) (P : ℕ → ℝ) (z : ℕ) (hz : z < 32) :
    ∑ k : Fin 33, (if k.val = 0 then 0 else S (k.val - 1)) * (if k.val ≤ z then Real.exp (P z - P k.val) else 0)
      = ∑ k ∈ Finset.range z, Real.exp (P z - P (k + 1)) * S k := by
  rw [Fin.sum_univ_eq_sum_range (fun k => (if k = 0 then 0 else S (k - 1)) * (if k ≤ z then Real.exp (P z - P k) else 0)) 33, Finset.sum_range_succ',
    if_pos rfl, zero_mul, add_zero]
  symm
  refine (Finset.sum_congr rfl fun k hk => ?_).trans (Finset.sum_subset (Finset.range_mono hz.le) fun k _ hk => ?_)
  · have := Finset.mem_range.mp hk
    rw [if_neg (Nat.succ_ne_zero k), if_pos (by omega), Nat.add_sub_cancel, mul_comm]
  · have : ¬ k < z := fun h => hk (Finset.mem_range.mpr h)
    rw [if_neg (show ¬ k + 1 ≤ z by omega), mul_zero]

/-- What the scan of one head starts from, as real numbers. -/
structure Head (x b c : FVec Ideal S1x32x64x128x128 .f32) (s : FVec Ideal S1x32x128x64 .f32) (C B X : ℕ → ℕ → ℝ) (dt dA : ℕ → ℝ) (h : Fin 128) : Prop where
  hx : ∀ (z : Fin 32) (l : Fin 64) (p : Fin 128), x (ix5 0 z l h p) = ((X (64 * z.val + l.val) p.val * dt (64 * z.val + l.val) : ℝ) : EReal)
  hb : ∀ (z : Fin 32) (l : Fin 64) (n : Fin 128), b (ix5 0 z l h n) = ((B (64 * z.val + l.val) n.val : ℝ) : EReal)
  hc : ∀ (z : Fin 32) (l : Fin 64) (n : Fin 128), c (ix5 0 z l h n) = ((C (64 * z.val + l.val) n.val : ℝ) : EReal)
  hs : ∀ (z : Fin 32) (l : Fin 64), s (ix4 0 z h l) = ((Scan.Dp dA (64 * z.val + l.val + 1) - Scan.Dp dA (64 * z.val) : ℝ) : EReal)

section

variable {x b c : FVec Ideal S1x32x64x128x128 .f32} {s : FVec Ideal S1x32x128x64 .f32} {C B X : ℕ → ℕ → ℝ} {dt dA : ℕ → ℝ} {h : Fin 128}

/-- The rows of the chunk itself. -/
theorem ydiag_real (H : Head x b c s C B X dt dA h) (z : Fin 32) (l : Fin 64) (p : Fin 128) :
    ydiag x b c (lmat s) (ix5 0 z l h p) = ((∑ k : Fin 64, (∑ n : Fin 128, C (64 * z.val + l.val) n.val * B (64 * z.val + k.val) n.val)
      * (if k.val ≤ l.val then Real.exp ((Scan.Dp dA (64 * z.val + l.val + 1) - Scan.Dp dA (64 * z.val)) - (Scan.Dp dA (64 * z.val + k.val + 1) - Scan.Dp dA (64 * z.val))) else 0)
      * (X (64 * z.val + k.val) p.val * dt (64 * z.val + k.val)) : ℝ) : EReal) := by
  rw [ydiag_apply, Scan.coe_sum]
  refine Finset.sum_congr rfl fun k _ => ?_
  rw [lmat_apply, H.hx, H.hs, H.hs, Finset.sum_congr rfl fun n _ => by rw [H.hc, H.hb], Scan.sum_coe_mul]
  by_cases hk : k.val ≤ l.val
  · rw [if_pos hk, if_pos hk, ← EReal.coe_sub, Ideal.exp_coe, ← EReal.coe_mul, ← EReal.coe_mul]
    congr 1
    ring
  · rw [if_neg hk, if_neg hk, mul_zero, mul_zero, mul_zero, zero_mul, EReal.coe_zero]

/-- The state one chunk adds. -/
def Sz (B X : ℕ → ℕ → ℝ) (dt dA : ℕ → ℝ) (n p k : ℕ) : ℝ :=
  ∑ s : Fin 64, B (64 * k + s.val) n * (X (64 * k + s.val) p * dt (64 * k + s.val) * Real.exp (Scan.Dp dA (64 * (k + 1)) - Scan.Dp dA (64 * k + s.val + 1)))

theorem sts_real (H : Head x b c s C B X dt dA h) (z : Fin 32) (n p : Fin 128) :
    sts x b (dend s) (ix5 0 z h n p) = ((Sz B X dt dA n.val p.val z.val : ℝ) : EReal) := by
  rw [sts_apply, Sz, Scan.coe_sum]
  refine Finset.sum_congr rfl fun l _ => ?_
  rw [dend_apply, H.hs, H.hs, H.hx, H.hb, ← EReal.coe_sub, Ideal.exp_coe, ← EReal.coe_mul, ← EReal.coe_mul,
    show (Scan.Dp dA (64 * z.val + (63 : Fin 64).val + 1) - Scan.Dp dA (64 * z.val)) - (Scan.Dp dA (64 * z.val + l.val + 1) - Scan.Dp dA (64 * z.val))
      = Scan.Dp dA (64 * (z.val + 1)) - Scan.Dp dA (64 * z.val + l.val + 1) by
        rw [show 64 * z.val + (63 : Fin 64).val + 1 = 64 * (z.val + 1) by show 64 * z.val + 63 + 1 = _; ring]; ring]
  congr 1
  ring

/-- The cumulative sums at the chunks' bounds. -/
theorem pcs_real (H : Head x b c s C B X dt dA h) (z : Fin 33) : pcs (tot0 s) (ix3 0 h z) = ((Scan.Dp dA (64 * z.val) : ℝ) : EReal) := by
  rw [pcs_apply _ (fun k => if k = 0 then 0 else Scan.Dp dA (64 * k) - Scan.Dp dA (64 * (k - 1))) h (fun l => ?_), totals]
  rw [tot0_apply]
  by_cases hl : l.val = 0
  · rw [dif_pos hl, if_pos hl, EReal.coe_zero]
  · rw [dif_neg hl, if_neg hl, H.hs]
    show ((Scan.Dp dA (64 * (l.val - 1) + 63 + 1) - Scan.Dp dA (64 * (l.val - 1)) : ℝ) : EReal) = _
    rw [show 64 * (l.val - 1) + 63 + 1 = 64 * l.val by omega]

/-- The state carried into a chunk. -/
theorem prev_real (H : Head x b c s C B X dt dA h) (z : Fin 32) (n p : Fin 128) :
    prev (sts0 (sts x b (dend s))) (dchunk (pcs (tot0 s))) (ix5 0 z h n p) = ((Scan.St B X dt dA (64 * z.val) n.val p.val : ℝ) : EReal) := by
  rw [prev_apply]
  refine Eq.trans ?_ (congrArg (fun r : ℝ => (r : EReal)) ((bounds_sum (Sz B X dt dA n.val p.val) (fun k => Scan.Dp dA (64 * k)) z.val z.isLt).trans
    (Scan.chunks_state B X dt dA 64 z.val n.val p.val (fun k => Scan.Dp dA (64 * k)) (Sz B X dt dA n.val p.val) (fun _ => rfl) (fun _ => rfl))))
  rw [Scan.coe_sum]
  refine Finset.sum_congr rfl fun k _ => ?_
  rw [sts0_apply, dchunk_apply, pcs_real H, pcs_real H, EReal.coe_mul]
  congr 1
  · by_cases hk : k.val = 0
    · rw [dif_pos hk, if_pos hk, EReal.coe_zero]
    · rw [dif_neg hk, if_neg hk, sts_real H]
  · by_cases hk : k.val ≤ z.val
    · rw [if_pos hk, if_pos hk, ← EReal.coe_sub, Ideal.exp_coe]
    · rw [if_neg hk, if_neg hk, EReal.coe_zero]

/-- The scan of one head. -/
theorem scan_real (H : Head x b c s C B X dt dA h) (t : Fin 2048) (p : Fin 128) :
    scan x b c s (ix4 0 t h p) = ((Scan.Yv C B X dt dA t.val p.val : ℝ) : EReal) := by
  have ht : 64 * (t.val / 64) + t.val % 64 = t.val := by omega
  have hr : t.val % 64 < 64 := by omega
  have hq : ∀ (z : Fin 32) (l : Fin 64), ∑ n : Fin 128, prev (sts0 (sts x b (dend s))) (dchunk (pcs (tot0 s))) (ix5 0 z h n p) * c (ix5 0 z l h n)
      = ((∑ n : Fin 128, C (64 * z.val + l.val) n.val * Scan.St B X dt dA (64 * z.val) n.val p.val : ℝ) : EReal) := fun z l => by
    rw [← Scan.sum_coe_mul]
    exact Finset.sum_congr rfl fun n _ => by rw [prev_real H, H.hc, mul_comm]
  unfold scan
  rw [out_apply, ydiag_real H, yoff_apply, hq, H.hs, Ideal.exp_coe, ← EReal.coe_mul,
    ← EReal.coe_add]
  congr 1
  have := Scan.chunk_out C B X dt dA 64 (64 * (t.val / 64)) (t.val % 64) p.val hr (fun k => Scan.Dp dA (64 * (t.val / 64) + k + 1) - Scan.Dp dA (64 * (t.val / 64))) (fun _ _ => rfl)
  rw [ht] at this
  dsimp only
  rw [ht]
  exact this

end

/-- The decrements' cumulative sum within a chunk. -/
theorem chunk_sum (dA : ℕ → ℝ) (z l : ℕ) : ∑ k ∈ Finset.range (l + 1), dA (64 * z + k) = Scan.Dp dA (64 * z + l + 1) - Scan.Dp dA (64 * z) := by
  rw [add_assoc, Scan.Dp_add]; ring

/-- The reference, from the two low-rank factors on: where its arguments are real numbers, its result is the closed form of the scan. -/
theorem top_real (a : FVec Ideal S1x2048x1536 .f32) (b : FVec Ideal S1x2048x576 .f32) (wc : FVec Ideal S24576x1536 .f32) (wb : FVec Ideal S32768x512 .f32)
    (al : FVec Ideal S128 .f32) (ar br wcr wbr : ℕ → ℕ → ℝ) (alr : ℕ → ℝ)
    (ha : ∀ t m, a (ix3 0 t m) = ((ar t.val m.val : ℝ) : EReal)) (hb : ∀ t m, b (ix3 0 t m) = ((br t.val m.val : ℝ) : EReal))
    (hwc : ∀ k m, wc (ix2 k m) = ((wcr k.val m.val : ℝ) : EReal)) (hwb : ∀ k m, wb (ix2 k m) = ((wbr k.val m.val : ℝ) : EReal))
    (hal : ∀ k, al (ix1 k) = ((alr k.val : ℝ) : EReal)) (t : Fin 2048) (h p : Fin 128) :
    top a b wc wb al (ix4 0 t h p) = ((Scan.Yf ar br (fun k m => wcr (k / 128 * 192 + k % 128) m) (fun k m => wcr (k / 64 * 192 + (128 + k % 64)) m)
      (fun k m => wbr (k / 128 * 256 + k % 128) m) (fun k m => wbr (k / 128 * 256 + (128 + k % 128)) m) (fun H => -Real.exp (alr H)) h.val t.val p.val : ℝ) : EReal) := by
  have hC : ∀ (t : Fin 2048) (n : Fin 128), cc (pc a wc) (ix4 0 t h n) = ((Scan.Cf ar (fun k m => wcr (k / 128 * 192 + k % 128) m) h.val t.val n.val : ℝ) : EReal) := fun t n => by
    have hn := n.isLt
    rw [cc_apply, pc_apply, Scan.Cf, ← Scan.sum_coe_mul]
    refine Finset.sum_congr rfl fun m _ => ?_
    rw [ha, hwc, show (h.val * 128 + n.val) / 128 * 192 + (h.val * 128 + n.val) % 128 = h.val * 192 + n.val by omega]
  have hB : ∀ (t : Fin 2048) (n : Fin 128), bb (pbx b wb) (ix4 0 t h n) = ((Scan.Lf br (fun k m => wbr (k / 128 * 256 + k % 128) m) h.val t.val n.val : ℝ) : EReal) := fun t n => by
    have hn := n.isLt
    rw [bb_apply, pbx_apply, Scan.Lf, ← Scan.sum_coe_mul]
    refine Finset.sum_congr rfl fun m _ => ?_
    rw [hb, hwb, show (h.val * 128 + n.val) / 128 * 256 + (h.val * 128 + n.val) % 128 = h.val * 256 + n.val by omega]
  have hX : ∀ (t : Fin 2048) (n : Fin 128), xx (pbx b wb) (ix4 0 t h n) = ((Scan.Lf br (fun k m => wbr (k / 128 * 256 + (128 + k % 128)) m) h.val t.val n.val : ℝ) : EReal) := fun t n => by
    have hn := n.isLt
    rw [xx_apply, pbx_apply, Scan.Lf, ← Scan.sum_coe_mul]
    refine Finset.sum_congr rfl fun m _ => ?_
    rw [hb, hwb, show (h.val * 128 + n.val) / 128 * 256 + (128 + (h.val * 128 + n.val) % 128) = h.val * 256 + (128 + n.val) by omega]
  have hD : ∀ t : Fin 2048, dt (zz (pc a wc) b) (ix3 0 t h) = ((Scan.dtf ar br (fun k m => wcr (k / 64 * 192 + (128 + k % 64)) m) h.val t.val : ℝ) : EReal) := fun t => by
    refine dt_apply _ _ _ ?_
    rw [zz_apply, ← Scan.sum_coe_mul]
    refine Finset.sum_congr rfl fun d _ => ?_
    have hd := d.isLt
    rw [pc_apply, hb, ← Scan.sum_coe_mul]
    congr 1
    refine Finset.sum_congr rfl fun m _ => ?_
    dsimp only
    rw [ha, hwc, show (h.val * 64 + d.val) / 64 * 192 + (128 + (h.val * 64 + d.val) % 64) = h.val * 192 + (128 + d.val) by omega]
  refine scan_real ⟨fun z l p => ?_, fun z l n => ?_, fun z l n => ?_, fun z l => ?_⟩ t p
  · rw [ch_apply, xd_apply, hX, hD, ← EReal.coe_mul]
    simp only [mul_comm z.val 64]
  · rw [ch_apply, hB]
    simp only [mul_comm z.val 64]
  · rw [ch_apply, hC]
    simp only [mul_comm z.val 64]
  · refine (acs_apply _ (fun k => Scan.dAf ar br (fun k m => wcr (k / 64 * 192 + (128 + k % 64)) m) (fun H => -Real.exp (alr H)) h.val (64 * z.val + k)) z h (fun l => ?_) l).trans ?_
    · rw [dac_apply, hD, hal, Ideal.exp_coe, ← EReal.coe_neg, ← EReal.coe_mul]
      simp only [mul_comm z.val 64]
      rfl
    · rw [chunk_sum]

end Cert.ReferenceIdeal.Stages

end
-- ==== Proof.Algebraic.lean ====
/-
  The value claim: on finite arguments the kernel and the reference compute the same result.
-/
module

public import proofs.«01_k».proof.Defs
public import proofs.«01_k».proof.Proof.KernelIdeal.Result
public import proofs.«01_k».proof.Proof.ReferenceIdeal.Scan
public import proofs.«01_k».proof.Proof.Value.Finite

@[expose] public section

set_option maxRecDepth 16384

noncomputable section

open Idealize.ShloMosaic Idealize.ShloMosaic.TcCoe Idealize.SL.Sem

namespace Cert.Proof

open Cert.Lift

/-- The precondition makes every argument an array of real numbers. -/
theorem real_of_pre (m : (ℓ : Loc Cert.KernelIdeal.nD Cert.KernelIdeal.τ Cert.KernelIdeal.sig) → Buf (Elt Ideal) ℓ)
    (h : Pre_KernelIdeal_finite (hPre_finite := Cert.Finite.facts) m) (c : Dev Cert.KernelIdeal.nD) : Cert.KernelIdeal.Result.Real m c :=
  have r := Cert.Finite.reals (F := Cert.Finite.facts) _ _ _ _ _ _ (h c)
  ⟨r.1, r.2.1, r.2.2.1, r.2.2.2.1, r.2.2.2.2.1, r.2.2.2.2.2⟩

/-- The reference's stages, on arrays of real numbers. -/
theorem reference_real (x : FVec Ideal Cert.ReferenceIdeal.S1x2048x7168 .f32) (w1 : FVec Ideal Cert.ReferenceIdeal.S1536x7168 .f32)
    (w2 : FVec Ideal Cert.ReferenceIdeal.S24576x1536 .f32) (w3 : FVec Ideal Cert.ReferenceIdeal.S576x7168 .f32) (w4 : FVec Ideal Cert.ReferenceIdeal.S32768x512 .f32)
    (w5 : FVec Ideal Cert.ReferenceIdeal.S128 .f32) (h0 : AllReal x) (h1 : AllReal w1) (h2 : AllReal w2) (h3 : AllReal w3) (h4 : AllReal w4) (h5 : AllReal w5)
    (t : Fin 2048) (h p : Fin 128) :
    Cert.ReferenceIdeal.Stages.top (Cert.ReferenceIdeal.Stages.fac x w1) (Cert.ReferenceIdeal.Stages.fbx x w3) w2 w4 w5 (ix4 0 t h p)
      = ((Scan.Yf (low 7168 (r3 x) (r2 w1)) (low 7168 (r3 x) (r2 w3)) (fun k q => r2 w2 (k / 128 * 192 + k % 128) q) (fun k q => r2 w2 (k / 64 * 192 + (128 + k % 64)) q)
        (fun k q => r2 w4 (k / 128 * 256 + k % 128) q) (fun k q => r2 w4 (k / 128 * 256 + (128 + k % 128)) q) (fun h => -Real.exp (r1 w5 h)) h.val t.val p.val : ℝ) : EReal) := by
  refine Cert.ReferenceIdeal.Stages.top_real _ _ w2 w4 w5 _ _ (r2 w2) (r2 w4) (r1 w5) (fun t q => ?_) (fun t q => ?_) (r2_eq h2) (r2_eq h4) (r1_eq h5) t h p
  · rw [Cert.ReferenceIdeal.Stages.fac_apply, low, ← Scan.sum_coe_mul]
    exact Finset.sum_congr rfl fun k _ => by rw [r3_eq h0, r2_eq h1]
  · rw [Cert.ReferenceIdeal.Stages.fbx_apply, low, ← Scan.sum_coe_mul]
    exact Finset.sum_congr rfl fun k _ => by rw [r3_eq h0, r2_eq h3]

/-- The kernel's result array is the reference's. -/
theorem same (m : (ℓ : Loc Cert.KernelIdeal.nD Cert.KernelIdeal.τ Cert.KernelIdeal.sig) → Buf (Elt Ideal) ℓ) (c : Dev Cert.KernelIdeal.nD)
    (H : Cert.KernelIdeal.Result.Real m c) (i : Cert.KernelIdeal.S1x2048x128x128.Idx) :
    Cert.ReferenceIdeal.Stages.top
        (Cert.ReferenceIdeal.Stages.fac (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
        (Cert.ReferenceIdeal.Stages.fbx (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg2)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) i
      = Cert.KernelIdeal.Whole.W6 m c (Proc.devRef .tc Cert.KernelIdeal.main_v30) i := by
  have hi : i = ix4 0 (i 1) (i 2) (i 3) := by
    refine (ix4_eta i).symm.trans ?_
    congr 1
    exact Subsingleton.elim (α := Fin 1) _ _
  rw [hi]
  exact (reference_real _ _ _ _ _ _ H.h0 H.h1 H.h2 H.h3 H.h4 H.h5 (i 1) (i 2) (i 3)).trans (Cert.KernelIdeal.Result.result H (i 1) (i 2) (i 3)).symm

/-- On finite arguments the kernel's idealized program and the reference's end with equal results, their arguments unchanged. -/
theorem algebraic : algebraic_KernelIdeal_ReferenceIdeal_pre_finite (hPre_finite := Cert.Finite.facts) := fun m g m' g' hpre harg =>
  ⟨fun c => Cert.KernelIdeal.Whole.W6 m c (Proc.devRef .tc Cert.KernelIdeal.main_v30),
    (θ_run _ _ _).mono (fun _ h => h.1) (Cert.KernelIdeal.Whole.run (F := Ideal) m g),
    (θ_run _ _ _).mono (fun r h c => ⟨(h c).1.trans (by
      obtain ⟨e0, e1, e2, e3, e4, e5⟩ := harg c
      refine (Cert.ReferenceIdeal.Stages.res_eq m' c).trans ?_
      rw [e0, e1, e2, e3, e4, e5]
      exact funext (same m c (real_of_pre m hpre c))), (h c).2⟩) (Cert.ReferenceIdeal.Value.run (F := Ideal) m' g')⟩

end Cert.Proof

end
-- ==== Proof.lean ====
/-
  The proof of `Cert.Claim`.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Finite.facts,
    frame_kernel, frame_ideal, frame_ideal_finite, frame_reference, frame_reference_finite, trivial, algebraic⟩

end Cert.Proof

end
